-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v291) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_v170) = v3 c
          ∧ r.2.mem ((c.tc : Thread Cert.ReferenceIdeal.nD Cert.ReferenceIdeal.τ).loc Cert.ReferenceIdeal.main_v227) = v4 c
          ∧ r.2.mem ((c.tc : Thread Cert.ReferenceIdeal.nD Cert.ReferenceIdeal.τ).loc Cert.ReferenceIdeal.main_v284) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S65536x784 : Shape := ⟨2, ![65536, 784]⟩
abbrev S256x784 : Shape := ⟨2, ![256, 784]⟩
abbrev S256 : Shape := ⟨1, ![256]⟩
abbrev S128x256 : Shape := ⟨2, ![128, 256]⟩
abbrev S128 : Shape := ⟨1, ![128]⟩
abbrev S128x128 : Shape := ⟨2, ![128, 128]⟩
abbrev S32x128 : Shape := ⟨2, ![32, 128]⟩
abbrev S32 : Shape := ⟨1, ![32]⟩
abbrev S10x32 : Shape := ⟨2, ![10, 32]⟩
abbrev S10 : Shape := ⟨1, ![10]⟩
abbrev S256x1 : Shape := ⟨2, ![256, 1]⟩
abbrev S256x512 : Shape := ⟨2, ![256, 512]⟩
abbrev S128x1 : Shape := ⟨2, ![128, 1]⟩
abbrev S128x512 : Shape := ⟨2, ![128, 512]⟩
abbrev S32x1 : Shape := ⟨2, ![32, 1]⟩
abbrev S32x512 : Shape := ⟨2, ![32, 512]⟩
abbrev S10x1 : Shape := ⟨2, ![10, 1]⟩
abbrev S10x512 : Shape := ⟨2, ![10, 512]⟩
abbrev S10x65536 : Shape := ⟨2, ![10, 65536]⟩
abbrev S128x8x512 : Shape := ⟨3, ![128, 8, 512]⟩
abbrev S65536x10 : Shape := ⟨2, ![65536, 10]⟩
abbrev S_ : Shape := ⟨0, ![]⟩
abbrev S8 : Shape := ⟨1, ![8]⟩
abbrev S1 : Shape := ⟨1, ![1]⟩
abbrev S512x784 : Shape := ⟨2, ![512, 784]⟩
abbrev S1x8x512 : Shape := ⟨3, ![1, 8, 512]⟩
abbrev S512 : Shape := ⟨1, ![512]⟩
abbrev S1x512 : Shape := ⟨2, ![1, 512]⟩
abbrev S8x512 : Shape := ⟨2, ![8, 512]⟩
abbrev S64x512 : Shape := ⟨2, ![64, 512]⟩
abbrev S16x512 : Shape := ⟨2, ![16, 512]⟩
abbrev S1x1x512 : Shape := ⟨3, ![1, 1, 512]⟩

abbrev nBuf : Space → Nat
  | .hbm => 85
  | .vmem => 18
  | .smem => 0
  | _ => 0

abbrev bufTy : (tb : Table) → Fin (tcTables nBuf tb) → BufTy
  | .hbm, ⟨0, _⟩ => ⟨S65536x784, .f32⟩
  | .hbm, ⟨1, _⟩ => ⟨S256x784, .f32⟩
  | .hbm, ⟨2, _⟩ => ⟨S256, .f32⟩
  | .hbm, ⟨3, _⟩ => ⟨S128x256, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S32x128, .f32⟩
  | .hbm, ⟨10, _⟩ => ⟨S32, .f32⟩
  | .hbm, ⟨11, _⟩ => ⟨S10x32, .f32⟩
  | .hbm, ⟨12, _⟩ => ⟨S10, .f32⟩
  | .hbm, ⟨13, _⟩ => ⟨S256x1, .f32⟩
  | .hbm, ⟨14, _⟩ => ⟨S256x512, .f32⟩
  | .hbm, ⟨15, _⟩ => ⟨S128x1, .f32⟩
  | .hbm, ⟨16, _⟩ => ⟨S128x512, .f32⟩
  | .hbm, ⟨17, _⟩ => ⟨S128x1, .f32⟩
  | .hbm, ⟨18, _⟩ => ⟨S128x512, .f32⟩
  | .hbm, ⟨19, _⟩ => ⟨S128x1, .f32⟩
  | .hbm, ⟨20, _⟩ => ⟨S128x512, .f32⟩
  | .hbm, ⟨21, _⟩ => ⟨S32x1, .f32⟩
  | .hbm, ⟨22, _⟩ => ⟨S32x512, .f32⟩
  | .hbm, ⟨23, _⟩ => ⟨S10x1, .f32⟩
  | .hbm, ⟨24, _⟩ => ⟨S10x512, .f32⟩
  | .hbm, ⟨25, _⟩ => ⟨S10x65536, .f32⟩
  | .hbm, ⟨26, _⟩ => ⟨S128x8x512, .f32⟩
  | .hbm, ⟨27, _⟩ => ⟨S65536x10, .f32⟩
  | .hbm, ⟨28, _⟩ => ⟨S_, .f32⟩
  | .hbm, ⟨29, _⟩ => ⟨S8, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S1, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S1, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S1, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S1, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .local _ .vmem, ⟨0, _⟩ => ⟨S512x784, .f32⟩
  | .local _ .vmem, ⟨1, _⟩ => ⟨S512x784, .f32⟩
  | .local _ .vmem, ⟨2, _⟩ => ⟨S256x784, .f32⟩
  | .local _ .vmem, ⟨3, _⟩ => ⟨S128x256, .f32⟩
  | .local _ .vmem, ⟨4, _⟩ => ⟨S128x128, .f32⟩
  | .local _ .vmem, ⟨5, _⟩ => ⟨S128x128, .f32⟩
  | .local _ .vmem, ⟨6, _⟩ => ⟨S32x128, .f32⟩
  | .local _ .vmem, ⟨7, _⟩ => ⟨S10x32, .f32⟩
  | .local _ .vmem, ⟨8, _⟩ => ⟨S256x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S32x512, .f32⟩
  | .local _ .vmem, ⟨13, _⟩ => ⟨S10x512, .f32⟩
  | .local _ .vmem, ⟨14, _⟩ => ⟨S10x512, .f32⟩
  | .local _ .vmem, ⟨15, _⟩ => ⟨S10x512, .f32⟩
  | .local _ .vmem, ⟨16, _⟩ => ⟨S1x8x512, .f32⟩
  | .local _ .vmem, ⟨17, _⟩ => ⟨S1x8x512, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12_0 : Ref sig .tc := ⟨.hbm, 25, rfl⟩
abbrev main_call0_v12_1 : Ref sig .tc := ⟨.hbm, 26, rfl⟩
abbrev main_v0_0 : Ref sig .tc := ⟨.hbm, 27, rfl⟩
abbrev main_call0_cst : Ref sig .tc := ⟨.hbm, 28, rfl⟩
abbrev main_call0_v14 : Ref sig .tc := ⟨.hbm, 29, rfl⟩
abbrev main_call0_cst_0 : Ref sig .tc := ⟨.hbm, 30, rfl⟩
abbrev main_call0_v15 : Ref sig .tc := ⟨.hbm, 31, rfl⟩
abbrev main_call0_cst_1 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_cst_2 : Ref sig .tc := ⟨.hbm, 36, rfl⟩
abbrev main_call0_cst_3 : Ref sig .tc := ⟨.hbm, 37, rfl⟩
abbrev main_call0_v19 : Ref sig .tc := ⟨.hbm, 38, rfl⟩
abbrev main_call0_v20 : Ref sig .tc := ⟨.hbm, 39, rfl⟩
abbrev main_v0_1 : Ref sig .tc := ⟨.hbm, 40, rfl⟩
abbrev main_call0_cst_4 : Ref sig .tc := ⟨.hbm, 41, rfl⟩
abbrev main_call0_v22 : Ref sig .tc := ⟨.hbm, 42, rfl⟩
abbrev main_call0_cst_5 : Ref sig .tc := ⟨.hbm, 43, rfl⟩
abbrev main_call0_v23 : Ref sig .tc := ⟨.hbm, 44, rfl⟩
abbrev main_call0_v24 : Ref sig .tc := ⟨.hbm, 45, rfl⟩
abbrev main_call0_v25 : Ref sig .tc := ⟨.hbm, 46, rfl⟩
abbrev main_call0_cst_6 : Ref sig .tc := ⟨.hbm, 47, rfl⟩
abbrev main_call0_cst_7 : Ref sig .tc := ⟨.hbm, 48, rfl⟩
abbrev main_call0_v26 : Ref sig .tc := ⟨.hbm, 49, rfl⟩
abbrev main_call0_v27 : Ref sig .tc := ⟨.hbm, 50, rfl⟩
abbrev main_v0_2 : Ref sig .tc := ⟨.hbm, 51, rfl⟩
abbrev main_call0_cst_8 : Ref sig .tc := ⟨.hbm, 52, rfl⟩
abbrev main_call0_v29 : Ref sig .tc := ⟨.hbm, 53, rfl⟩
abbrev main_call0_cst_9 : Ref sig .tc := ⟨.hbm, 54, rfl⟩
abbrev main_call0_v30 : Ref sig .tc := ⟨.hbm, 55, rfl⟩
abbrev main_call0_v31 : Ref sig .tc := ⟨.hbm, 56, rfl⟩
abbrev main_call0_v32 : Ref sig .tc := ⟨.hbm, 57, rfl⟩
abbrev main_call0_cst_10 : Ref sig .tc := ⟨.hbm, 58, rfl⟩
abbrev main_call0_cst_11 : Ref sig .tc := ⟨.hbm, 59, rfl⟩
abbrev main_call0_v33 : Ref sig .tc := ⟨.hbm, 60, rfl⟩
abbrev main_call0_v34 : Ref sig .tc := ⟨.hbm, 61, rfl⟩
abbrev main_v0_3 : Ref sig .tc := ⟨.hbm, 62, rfl⟩
abbrev main_call0_cst_12 : Ref sig .tc := ⟨.hbm, 63, rfl⟩
abbrev main_call0_v36 : Ref sig .tc := ⟨.hbm, 64, rfl⟩
abbrev main_call0_cst_13 : Ref sig .tc := ⟨.hbm, 65, rfl⟩
abbrev main_call0_v37 : Ref sig .tc := ⟨.hbm, 66, rfl⟩
abbrev main_call0_v38 : Ref sig .tc := ⟨.hbm, 67, rfl⟩
abbrev main_call0_v39 : Ref sig .tc := ⟨.hbm, 68, rfl⟩
abbrev main_call0_cst_14 : Ref sig .tc := ⟨.hbm, 69, rfl⟩
abbrev main_call0_cst_15 : Ref sig .tc := ⟨.hbm, 70, rfl⟩
abbrev main_call0_v40 : Ref sig .tc := ⟨.hbm, 71, rfl⟩
abbrev main_call0_v41 : Ref sig .tc := ⟨.hbm, 72, rfl⟩
abbrev main_v0_4 : Ref sig .tc := ⟨.hbm, 73, rfl⟩
abbrev main_call0_cst_16 : Ref sig .tc := ⟨.hbm, 74, rfl⟩
abbrev main_call0_v43 : Ref sig .tc := ⟨.hbm, 75, rfl⟩
abbrev main_call0_cst_17 : Ref sig .tc := ⟨.hbm, 76, rfl⟩
abbrev main_call0_v44 : Ref sig .tc := ⟨.hbm, 77, rfl⟩
abbrev main_call0_v45 : Ref sig .tc := ⟨.hbm, 78, rfl⟩
abbrev main_call0_v46 : Ref sig .tc := ⟨.hbm, 79, rfl⟩
abbrev main_call0_cst_18 : Ref sig .tc := ⟨.hbm, 80, rfl⟩
abbrev main_call0_cst_19 : Ref sig .tc := ⟨.hbm, 81, rfl⟩
abbrev main_call0_v47 : Ref sig .tc := ⟨.hbm, 82, rfl⟩
abbrev main_call0_v48 : Ref sig .tc := ⟨.hbm, 83, rfl⟩
abbrev main_v0_5 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c4_i32 : BitVec 32 := 4#32
  let v33 : BitVec 32 := Scalar.addi c0_i32 c4_i32
  let c1_i32 : BitVec 32 := 1#32
  ⟨c0_i32, v33, c1_i32⟩
@[reducible] def k0_t2_loop : Scf.Loop 32 :=
  let c0_i32_39 : BitVec 32 := 0#32
  let c2_i32 : BitVec 32 := 2#32
  let v73 : BitVec 32 := Scalar.addi c0_i32_39 c2_i32
  let c1_i32_40 : BitVec 32 := 1#32
  ⟨c0_i32_39, v73, c1_i32_40⟩
@[reducible] def k0_t3_loop : Scf.Loop 32 :=
  let c0_i32_62 : BitVec 32 := 0#32
  let c2_i32_63 : BitVec 32 := 2#32
  let v113 : BitVec 32 := Scalar.addi c0_i32_62 c2_i32_63
  let c1_i32_64 : BitVec 32 := 1#32
  ⟨c0_i32_62, v113, c1_i32_64⟩
@[reducible] def k0_t4_loop : Scf.Loop 32 :=
  let c0_i32_86 : BitVec 32 := 0#32
  let c2_i32_87 : BitVec 32 := 2#32
  let v153 : BitVec 32 := Scalar.addi c0_i32_86 c2_i32_87
  let c1_i32_88 : BitVec 32 := 1#32
  ⟨c0_i32_86, v153, c1_i32_88⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S10x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S10x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S65536x784 : Shape := ⟨2, ![65536, 784]⟩
abbrev S256x784 : Shape := ⟨2, ![256, 784]⟩
abbrev S256 : Shape := ⟨1, ![256]⟩
abbrev S128x256 : Shape := ⟨2, ![128, 256]⟩
abbrev S128 : Shape := ⟨1, ![128]⟩
abbrev S128x128 : Shape := ⟨2, ![128, 128]⟩
abbrev S32x128 : Shape := ⟨2, ![32, 128]⟩
abbrev S32 : Shape := ⟨1, ![32]⟩
abbrev S10x32 : Shape := ⟨2, ![10, 32]⟩
abbrev S10 : Shape := ⟨1, ![10]⟩
abbrev S784x256 : Shape := ⟨2, ![784, 256]⟩
abbrev S65536x256 : Shape := ⟨2, ![65536, 256]⟩
abbrev S1x256 : Shape := ⟨2, ![1, 256]⟩
abbrev S_ : Shape := ⟨0, ![]⟩
abbrev S65536 : Shape := ⟨1, ![65536]⟩
abbrev S65536x1 : Shape := ⟨2, ![65536, 1]⟩
abbrev S16777216 : Shape := ⟨1, ![16777216]⟩
abbrev S16777216x1 : Shape := ⟨2, ![16777216, 1]⟩
abbrev S256x128 : Shape := ⟨2, ![256, 128]⟩
abbrev S65536x128 : Shape := ⟨2, ![65536, 128]⟩
abbrev S1x128 : Shape := ⟨2, ![1, 128]⟩
abbrev S8388608 : Shape := ⟨1, ![8388608]⟩
abbrev S8388608x1 : Shape := ⟨2, ![8388608, 1]⟩
abbrev S128x32 : Shape := ⟨2, ![128, 32]⟩
abbrev S65536x32 : Shape := ⟨2, ![65536, 32]⟩
abbrev S1x32 : Shape := ⟨2, ![1, 32]⟩
abbrev S2097152 : Shape := ⟨1, ![2097152]⟩
abbrev S2097152x1 : Shape := ⟨2, ![2097152, 1]⟩
abbrev S32x10 : Shape := ⟨2, ![32, 10]⟩
abbrev S65536x10 : Shape := ⟨2, ![65536, 10]⟩
abbrev S1x10 : Shape := ⟨2, ![1, 10]⟩

abbrev nBuf : Space → Nat
  | .hbm => 516
  | .vmem => 0
  | .smem => 0
  | _ => 0

abbrev hbmTy0_0 (i : Nat) : BufTy := match i % 128 with
  | 0 => ⟨S65536x784, .f32⟩
  | 1 => ⟨S256x784, .f32⟩
  | 2 => ⟨S256, .f32⟩
  | 3 => ⟨S128x256, .f32⟩
  | 4 => ⟨S128, .f32⟩
  | 5 => ⟨S128x128, .f32⟩
  | 6 => ⟨S128, .f32⟩
  | 7 => ⟨S128x128, .f32⟩
  | 8 => ⟨S128, .f32⟩
  | 9 => ⟨S32x128, .f32⟩
  | 10 => ⟨S32, .f32⟩
  | 11 => ⟨S10x32, .f32⟩
  | 12 => ⟨S10, .f32⟩
  | 13 => ⟨S784x256, .f32⟩
  | 14 => ⟨S65536x256, .f32⟩
  | 15 => ⟨S1x256, .f32⟩
  | 16 => ⟨S65536x256, .f32⟩
  | 17 => ⟨S65536x256, .f32⟩
  | 18 => ⟨S_, .f32⟩
  | 19 => ⟨S_, .f32⟩
  | 20 => ⟨S65536x256, .f32⟩
  | 21 => ⟨S65536x256, .i1⟩
  | 22 => ⟨S_, .f32⟩
  | 23 => ⟨S65536x256, .f32⟩
  | 24 => ⟨S65536x256, .f32⟩
  | 25 => ⟨S65536x256, .f32⟩
  | 26 => ⟨S_, .f32⟩
  | 27 => ⟨S65536, .f32⟩
  | 28 => ⟨S65536x1, .f32⟩
  | 29 => ⟨S_, .f32⟩
  | 30 => ⟨S65536, .f32⟩
  | 31 => ⟨S65536x1, .f32⟩
  | 32 => ⟨S65536x1, .f32⟩
  | 33 => ⟨S_, .f32⟩
  | 34 => ⟨S65536x1, .f32⟩
  | 35 => ⟨S65536x1, .i1⟩
  | 36 => ⟨S_, .f32⟩
  | 37 => ⟨S_, .f32⟩
  | 38 => ⟨S65536x1, .f32⟩
  | 39 => ⟨S65536x1, .f32⟩
  | 40 => ⟨S65536x256, .f32⟩
  | 41 => ⟨S65536x256, .f32⟩
  | 42 => ⟨S65536x256, .f32⟩
  | 43 => ⟨S65536x256, .f32⟩
  | 44 => ⟨S_, .f32⟩
  | 45 => ⟨S65536x256, .f32⟩
  | 46 => ⟨S65536x256, .f32⟩
  | 47 => ⟨S65536x256, .f32⟩
  | 48 => ⟨S65536x256, .i32⟩
  | 49 => ⟨S_, .i32⟩
  | 50 => ⟨S_, .i32⟩
  | 51 => ⟨S_, .i32⟩
  | 52 => ⟨S65536x256, .i32⟩
  | 53 => ⟨S65536x256, .i32⟩
  | 54 => ⟨S_, .i32⟩
  | 55 => ⟨S65536x256, .i32⟩
  | 56 => ⟨S65536x256, .i32⟩
  | 57 => ⟨S65536, .i32⟩
  | 58 => ⟨S65536x1, .i32⟩
  | 59 => ⟨S_, .i32⟩
  | 60 => ⟨S65536x1, .i32⟩
  | 61 => ⟨S65536x1, .i32⟩
  | 62 => ⟨S65536x256, .i32⟩
  | 63 => ⟨S65536x256, .i32⟩
  | 64 => ⟨S16777216, .i32⟩
  | 65 => ⟨S_, .f32⟩
  | 66 => ⟨S16777216, .f32⟩
  | 67 => ⟨S_, .i32⟩
  | 68 => ⟨S16777216, .i32⟩
  | 69 => ⟨S16777216, .i1⟩
  | 70 => ⟨S_, .i32⟩
  | 71 => ⟨S16777216, .i32⟩
  | 72 => ⟨S16777216, .i32⟩
  | 73 => ⟨S16777216, .i32⟩
  | 74 => ⟨S16777216x1, .i32⟩
  | 75 => ⟨S_, .f32⟩
  | 76 => ⟨S16777216, .f32⟩
  | 77 => ⟨S16777216, .f32⟩
  | 78 => ⟨S65536x256, .f32⟩
  | 79 => ⟨S_, .f32⟩
  | 80 => ⟨S65536x256, .f32⟩
  | 81 => ⟨S65536x256, .f32⟩
  | 82 => ⟨S_, .f32⟩
  | 83 => ⟨S65536x256, .f32⟩
  | 84 => ⟨S65536x256, .i1⟩
  | 85 => ⟨S_, .f32⟩
  | 86 => ⟨S65536x256, .f32⟩
  | 87 => ⟨S65536x256, .i1⟩
  | 88 => ⟨S_, .f32⟩
  | 89 => ⟨S_, .f32⟩
  | 90 => ⟨S65536x256, .f32⟩
  | 91 => ⟨S65536x256, .f32⟩
  | 92 => ⟨S65536x256, .f32⟩
  | 93 => ⟨S65536x256, .f32⟩
  | 94 => ⟨S_, .f32⟩
  | 95 => ⟨S_, .f32⟩
  | 96 => ⟨S65536x256, .f32⟩
  | 97 => ⟨S65536x256, .f32⟩
  | 98 => ⟨S_, .f32⟩
  | 99 => ⟨S65536, .f32⟩
  | 100 => ⟨S65536, .f32⟩
  | 101 => ⟨S_, .f32⟩
  | 102 => ⟨S_, .f32⟩
  | 103 => ⟨S65536, .f32⟩
  | 104 => ⟨S65536, .f32⟩
  | 105 => ⟨S_, .f32⟩
  | 106 => ⟨S_, .f32⟩
  | 107 => ⟨S_, .f32⟩
  | 108 => ⟨S_, .f32⟩
  | 109 => ⟨S256x128, .f32⟩
  | 110 => ⟨S65536x128, .f32⟩
  | 111 => ⟨S1x128, .f32⟩
  | 112 => ⟨S65536x128, .f32⟩
  | 113 => ⟨S65536x128, .f32⟩
  | 114 => ⟨S_, .f32⟩
  | 115 => ⟨S_, .f32⟩
  | 116 => ⟨S65536x128, .f32⟩
  | 117 => ⟨S65536x128, .i1⟩
  | 118 => ⟨S_, .f32⟩
  | 119 => ⟨S65536x128, .f32⟩
  | 120 => ⟨S65536x128, .f32⟩
  | 121 => ⟨S65536x128, .f32⟩
  | 122 => ⟨S_, .f32⟩
  | 123 => ⟨S65536, .f32⟩
  | 124 => ⟨S65536x1, .f32⟩
  | 125 => ⟨S_, .f32⟩
  | 126 => ⟨S65536, .f32⟩
  | 127 => ⟨S65536x1, .f32⟩
  | _ => ⟨S65536x784, .f32⟩

abbrev hbmTy0_1 (i : Nat) : BufTy := match i % 128 with
  | 0 => ⟨S65536x1, .f32⟩
  | 1 => ⟨S_, .f32⟩
  | 2 => ⟨S65536x1, .f32⟩
  | 3 => ⟨S65536x1, .i1⟩
  | 4 => ⟨S_, .f32⟩
  | 5 => ⟨S_, .f32⟩
  | 6 => ⟨S65536x1, .f32⟩
  | 7 => ⟨S65536x1, .f32⟩
  | 8 => ⟨S65536x128, .f32⟩
  | 9 => ⟨S65536x128, .f32⟩
  | 10 => ⟨S65536x128, .f32⟩
  | 11 => ⟨S65536x128, .f32⟩
  | 12 => ⟨S_, .f32⟩
  | 13 => ⟨S65536x128, .f32⟩
  | 14 => ⟨S65536x128, .f32⟩
  | 15 => ⟨S65536x128, .f32⟩
  | 16 => ⟨S65536x128, .i32⟩
  | 17 => ⟨S_, .i32⟩
  | 18 => ⟨S_, .i32⟩
  | 19 => ⟨S_, .i32⟩
  | 20 => ⟨S65536x128, .i32⟩
  | 21 => ⟨S65536x128, .i32⟩
  | 22 => ⟨S_, .i32⟩
  | 23 => ⟨S65536x128, .i32⟩
  | 24 => ⟨S65536x128, .i32⟩
  | 25 => ⟨S65536, .i32⟩
  | 26 => ⟨S65536x1, .i32⟩
  | 27 => ⟨S_, .i32⟩
  | 28 => ⟨S65536x1, .i32⟩
  | 29 => ⟨S65536x1, .i32⟩
  | 30 => ⟨S65536x128, .i32⟩
  | 31 => ⟨S65536x128, .i32⟩
  | 32 => ⟨S8388608, .i32⟩
  | 33 => ⟨S_, .f32⟩
  | 34 => ⟨S8388608, .f32⟩
  | 35 => ⟨S_, .i32⟩
  | 36 => ⟨S8388608, .i32⟩
  | 37 => ⟨S8388608, .i1⟩
  | 38 => ⟨S_, .i32⟩
  | 39 => ⟨S8388608, .i32⟩
  | 40 => ⟨S8388608, .i32⟩
  | 41 => ⟨S8388608, .i32⟩
  | 42 => ⟨S8388608x1, .i32⟩
  | 43 => ⟨S_, .f32⟩
  | 44 => ⟨S8388608, .f32⟩
  | 45 => ⟨S8388608, .f32⟩
  | 46 => ⟨S65536x128, .f32⟩
  | 47 => ⟨S_, .f32⟩
  | 48 => ⟨S65536x128, .f32⟩
  | 49 => ⟨S65536x128, .f32⟩
  | 50 => ⟨S_, .f32⟩
  | 51 => ⟨S65536x128, .f32⟩
  | 52 => ⟨S65536x128, .i1⟩
  | 53 => ⟨S_, .f32⟩
  | 54 => ⟨S65536x128, .f32⟩
  | 55 => ⟨S65536x128, .i1⟩
  | 56 => ⟨S_, .f32⟩
  | 57 => ⟨S_, .f32⟩
  | 58 => ⟨S65536x128, .f32⟩
  | 59 => ⟨S65536x128, .f32⟩
  | 60 => ⟨S65536x128, .f32⟩
  | 61 => ⟨S65536x128, .f32⟩
  | 62 => ⟨S_, .f32⟩
  | 63 => ⟨S_, .f32⟩
  | 64 => ⟨S65536x128, .f32⟩
  | 65 => ⟨S65536x128, .f32⟩
  | 66 => ⟨S_, .f32⟩
  | 67 => ⟨S65536, .f32⟩
  | 68 => ⟨S65536, .f32⟩
  | 69 => ⟨S_, .f32⟩
  | 70 => ⟨S_, .f32⟩
  | 71 => ⟨S65536, .f32⟩
  | 72 => ⟨S65536, .f32⟩
  | 73 => ⟨S_, .f32⟩
  | 74 => ⟨S_, .f32⟩
  | 75 => ⟨S_, .f32⟩
  | 76 => ⟨S_, .f32⟩
  | 77 => ⟨S128x128, .f32⟩
  | 78 => ⟨S65536x128, .f32⟩
  | 79 => ⟨S1x128, .f32⟩
  | 80 => ⟨S65536x128, .f32⟩
  | 81 => ⟨S65536x128, .f32⟩
  | 82 => ⟨S_, .f32⟩
  | 83 => ⟨S_, .f32⟩
  | 84 => ⟨S65536x128, .f32⟩
  | 85 => ⟨S65536x128, .i1⟩
  | 86 => ⟨S_, .f32⟩
  | 87 => ⟨S65536x128, .f32⟩
  | 88 => ⟨S65536x128, .f32⟩
  | 89 => ⟨S65536x128, .f32⟩
  | 90 => ⟨S_, .f32⟩
  | 91 => ⟨S65536, .f32⟩
  | 92 => ⟨S65536x1, .f32⟩
  | 93 => ⟨S_, .f32⟩
  | 94 => ⟨S65536, .f32⟩
  | 95 => ⟨S65536x1, .f32⟩
  | 96 => ⟨S65536x1, .f32⟩
  | 97 => ⟨S_, .f32⟩
  | 98 => ⟨S65536x1, .f32⟩
  | 99 => ⟨S65536x1, .i1⟩
  | 100 => ⟨S_, .f32⟩
  | 101 => ⟨S_, .f32⟩
  | 102 => ⟨S65536x1, .f32⟩
  | 103 => ⟨S65536x1, .f32⟩
  | 104 => ⟨S65536x128, .f32⟩
  | 105 => ⟨S65536x128, .f32⟩
  | 106 => ⟨S65536x128, .f32⟩
  | 107 => ⟨S65536x128, .f32⟩
  | 108 => ⟨S_, .f32⟩
  | 109 => ⟨S65536x128, .f32⟩
  | 110 => ⟨S65536x128, .f32⟩
  | 111 => ⟨S65536x128, .f32⟩
  | 112 => ⟨S65536x128, .i32⟩
  | 113 => ⟨S_, .i32⟩
  | 114 => ⟨S_, .i32⟩
  | 115 => ⟨S_, .i32⟩
  | 116 => ⟨S65536x128, .i32⟩
  | 117 => ⟨S65536x128, .i32⟩
  | 118 => ⟨S_, .i32⟩
  | 119 => ⟨S65536x128, .i32⟩
  | 120 => ⟨S65536x128, .i32⟩
  | 121 => ⟨S65536, .i32⟩
  | 122 => ⟨S65536x1, .i32⟩
  | 123 => ⟨S_, .i32⟩
  | 124 => ⟨S65536x1, .i32⟩
  | 125 => ⟨S65536x1, .i32⟩
  | 126 => ⟨S65536x128, .i32⟩
  | 127 => ⟨S65536x128, .i32⟩
  | _ => ⟨S65536x784, .f32⟩

abbrev hbmTy0_2 (i : Nat) : BufTy := match i % 128 with
  | 0 => ⟨S8388608, .i32⟩
  | 1 => ⟨S_, .f32⟩
  | 2 => ⟨S8388608, .f32⟩
  | 3 => ⟨S_, .i32⟩
  | 4 => ⟨S8388608, .i32⟩
  | 5 => ⟨S8388608, .i1⟩
  | 6 => ⟨S_, .i32⟩
  | 7 => ⟨S8388608, .i32⟩
  | 8 => ⟨S8388608, .i32⟩
  | 9 => ⟨S8388608, .i32⟩
  | 10 => ⟨S8388608x1, .i32⟩
  | 11 => ⟨S_, .f32⟩
  | 12 => ⟨S8388608, .f32⟩
  | 13 => ⟨S8388608, .f32⟩
  | 14 => ⟨S65536x128, .f32⟩
  | 15 => ⟨S_, .f32⟩
  | 16 => ⟨S65536x128, .f32⟩
  | 17 => ⟨S65536x128, .f32⟩
  | 18 => ⟨S_, .f32⟩
  | 19 => ⟨S65536x128, .f32⟩
  | 20 => ⟨S65536x128, .i1⟩
  | 21 => ⟨S_, .f32⟩
  | 22 => ⟨S65536x128, .f32⟩
  | 23 => ⟨S65536x128, .i1⟩
  | 24 => ⟨S_, .f32⟩
  | 25 => ⟨S_, .f32⟩
  | 26 => ⟨S65536x128, .f32⟩
  | 27 => ⟨S65536x128, .f32⟩
  | 28 => ⟨S65536x128, .f32⟩
  | 29 => ⟨S65536x128, .f32⟩
  | 30 => ⟨S_, .f32⟩
  | 31 => ⟨S_, .f32⟩
  | 32 => ⟨S65536x128, .f32⟩
  | 33 => ⟨S65536x128, .f32⟩
  | 34 => ⟨S_, .f32⟩
  | 35 => ⟨S65536, .f32⟩
  | 36 => ⟨S65536, .f32⟩
  | 37 => ⟨S_, .f32⟩
  | 38 => ⟨S_, .f32⟩
  | 39 => ⟨S65536, .f32⟩
  | 40 => ⟨S65536, .f32⟩
  | 41 => ⟨S_, .f32⟩
  | 42 => ⟨S_, .f32⟩
  | 43 => ⟨S_, .f32⟩
  | 44 => ⟨S_, .f32⟩
  | 45 => ⟨S128x128, .f32⟩
  | 46 => ⟨S65536x128, .f32⟩
  | 47 => ⟨S1x128, .f32⟩
  | 48 => ⟨S65536x128, .f32⟩
  | 49 => ⟨S65536x128, .f32⟩
  | 50 => ⟨S_, .f32⟩
  | 51 => ⟨S_, .f32⟩
  | 52 => ⟨S65536x128, .f32⟩
  | 53 => ⟨S65536x128, .i1⟩
  | 54 => ⟨S_, .f32⟩
  | 55 => ⟨S65536x128, .f32⟩
  | 56 => ⟨S65536x128, .f32⟩
  | 57 => ⟨S65536x128, .f32⟩
  | 58 => ⟨S_, .f32⟩
  | 59 => ⟨S65536, .f32⟩
  | 60 => ⟨S65536x1, .f32⟩
  | 61 => ⟨S_, .f32⟩
  | 62 => ⟨S65536, .f32⟩
  | 63 => ⟨S65536x1, .f32⟩
  | 64 => ⟨S65536x1, .f32⟩
  | 65 => ⟨S_, .f32⟩
  | 66 => ⟨S65536x1, .f32⟩
  | 67 => ⟨S65536x1, .i1⟩
  | 68 => ⟨S_, .f32⟩
  | 69 => ⟨S_, .f32⟩
  | 70 => ⟨S65536x1, .f32⟩
  | 71 => ⟨S65536x1, .f32⟩
  | 72 => ⟨S65536x128, .f32⟩
  | 73 => ⟨S65536x128, .f32⟩
  | 74 => ⟨S65536x128, .f32⟩
  | 75 => ⟨S65536x128, .f32⟩
  | 76 => ⟨S_, .f32⟩
  | 77 => ⟨S65536x128, .f32⟩
  | 78 => ⟨S65536x128, .f32⟩
  | 79 => ⟨S65536x128, .f32⟩
  | 80 => ⟨S65536x128, .i32⟩
  | 81 => ⟨S_, .i32⟩
  | 82 => ⟨S_, .i32⟩
  | 83 => ⟨S_, .i32⟩
  | 84 => ⟨S65536x128, .i32⟩
  | 85 => ⟨S65536x128, .i32⟩
  | 86 => ⟨S_, .i32⟩
  | 87 => ⟨S65536x128, .i32⟩
  | 88 => ⟨S65536x128, .i32⟩
  | 89 => ⟨S65536, .i32⟩
  | 90 => ⟨S65536x1, .i32⟩
  | 91 => ⟨S_, .i32⟩
  | 92 => ⟨S65536x1, .i32⟩
  | 93 => ⟨S65536x1, .i32⟩
  | 94 => ⟨S65536x128, .i32⟩
  | 95 => ⟨S65536x128, .i32⟩
  | 96 => ⟨S8388608, .i32⟩
  | 97 => ⟨S_, .f32⟩
  | 98 => ⟨S8388608, .f32⟩
  | 99 => ⟨S_, .i32⟩
  | 100 => ⟨S8388608, .i32⟩
  | 101 => ⟨S8388608, .i1⟩
  | 102 => ⟨S_, .i32⟩
  | 103 => ⟨S8388608, .i32⟩
  | 104 => ⟨S8388608, .i32⟩
  | 105 => ⟨S8388608, .i32⟩
  | 106 => ⟨S8388608x1, .i32⟩
  | 107 => ⟨S_, .f32⟩
  | 108 => ⟨S8388608, .f32⟩
  | 109 => ⟨S8388608, .f32⟩
  | 110 => ⟨S65536x128, .f32⟩
  | 111 => ⟨S_, .f32⟩
  | 112 => ⟨S65536x128, .f32⟩
  | 113 => ⟨S65536x128, .f32⟩
  | 114 => ⟨S_, .f32⟩
  | 115 => ⟨S65536x128, .f32⟩
  | 116 => ⟨S65536x128, .i1⟩
  | 117 => ⟨S_, .f32⟩
  | 118 => ⟨S65536x128, .f32⟩
  | 119 => ⟨S65536x128, .i1⟩
  | 120 => ⟨S_, .f32⟩
  | 121 => ⟨S_, .f32⟩
  | 122 => ⟨S65536x128, .f32⟩
  | 123 => ⟨S65536x128, .f32⟩
  | 124 => ⟨S65536x128, .f32⟩
  | 125 => ⟨S65536x128, .f32⟩
  | 126 => ⟨S_, .f32⟩
  | 127 => ⟨S_, .f32⟩
  | _ => ⟨S65536x784, .f32⟩

abbrev hbmTy0_3 (i : Nat) : BufTy := match i % 128 with
  | 0 => ⟨S65536x128, .f32⟩
  | 1 => ⟨S65536x128, .f32⟩
  | 2 => ⟨S_, .f32⟩
  | 3 => ⟨S65536, .f32⟩
  | 4 => ⟨S65536, .f32⟩
  | 5 => ⟨S_, .f32⟩
  | 6 => ⟨S_, .f32⟩
  | 7 => ⟨S65536, .f32⟩
  | 8 => ⟨S65536, .f32⟩
  | 9 => ⟨S_, .f32⟩
  | 10 => ⟨S_, .f32⟩
  | 11 => ⟨S_, .f32⟩
  | 12 => ⟨S_, .f32⟩
  | 13 => ⟨S128x32, .f32⟩
  | 14 => ⟨S65536x32, .f32⟩
  | 15 => ⟨S1x32, .f32⟩
  | 16 => ⟨S65536x32, .f32⟩
  | 17 => ⟨S65536x32, .f32⟩
  | 18 => ⟨S_, .f32⟩
  | 19 => ⟨S_, .f32⟩
  | 20 => ⟨S65536x32, .f32⟩
  | 21 => ⟨S65536x32, .i1⟩
  | 22 => ⟨S_, .f32⟩
  | 23 => ⟨S65536x32, .f32⟩
  | 24 => ⟨S65536x32, .f32⟩
  | 25 => ⟨S65536x32, .f32⟩
  | 26 => ⟨S_, .f32⟩
  | 27 => ⟨S65536, .f32⟩
  | 28 => ⟨S65536x1, .f32⟩
  | 29 => ⟨S_, .f32⟩
  | 30 => ⟨S65536, .f32⟩
  | 31 => ⟨S65536x1, .f32⟩
  | 32 => ⟨S65536x1, .f32⟩
  | 33 => ⟨S_, .f32⟩
  | 34 => ⟨S65536x1, .f32⟩
  | 35 => ⟨S65536x1, .i1⟩
  | 36 => ⟨S_, .f32⟩
  | 37 => ⟨S_, .f32⟩
  | 38 => ⟨S65536x1, .f32⟩
  | 39 => ⟨S65536x1, .f32⟩
  | 40 => ⟨S65536x32, .f32⟩
  | 41 => ⟨S65536x32, .f32⟩
  | 42 => ⟨S65536x32, .f32⟩
  | 43 => ⟨S65536x32, .f32⟩
  | 44 => ⟨S_, .f32⟩
  | 45 => ⟨S65536x32, .f32⟩
  | 46 => ⟨S65536x32, .f32⟩
  | 47 => ⟨S65536x32, .f32⟩
  | 48 => ⟨S65536x32, .i32⟩
  | 49 => ⟨S_, .i32⟩
  | 50 => ⟨S_, .i32⟩
  | 51 => ⟨S_, .i32⟩
  | 52 => ⟨S65536x32, .i32⟩
  | 53 => ⟨S65536x32, .i32⟩
  | 54 => ⟨S_, .i32⟩
  | 55 => ⟨S65536x32, .i32⟩
  | 56 => ⟨S65536x32, .i32⟩
  | 57 => ⟨S65536, .i32⟩
  | 58 => ⟨S65536x1, .i32⟩
  | 59 => ⟨S_, .i32⟩
  | 60 => ⟨S65536x1, .i32⟩
  | 61 => ⟨S65536x1, .i32⟩
  | 62 => ⟨S65536x32, .i32⟩
  | 63 => ⟨S65536x32, .i32⟩
  | 64 => ⟨S2097152, .i32⟩
  | 65 => ⟨S_, .f32⟩
  | 66 => ⟨S2097152, .f32⟩
  | 67 => ⟨S_, .i32⟩
  | 68 => ⟨S2097152, .i32⟩
  | 69 => ⟨S2097152, .i1⟩
  | 70 => ⟨S_, .i32⟩
  | 71 => ⟨S2097152, .i32⟩
  | 72 => ⟨S2097152, .i32⟩
  | 73 => ⟨S2097152, .i32⟩
  | 74 => ⟨S2097152x1, .i32⟩
  | 75 => ⟨S_, .f32⟩
  | 76 => ⟨S2097152, .f32⟩
  | 77 => ⟨S2097152, .f32⟩
  | 78 => ⟨S65536x32, .f32⟩
  | 79 => ⟨S_, .f32⟩
  | 80 => ⟨S65536x32, .f32⟩
  | 81 => ⟨S65536x32, .f32⟩
  | 82 => ⟨S_, .f32⟩
  | 83 => ⟨S65536x32, .f32⟩
  | 84 => ⟨S65536x32, .i1⟩
  | 85 => ⟨S_, .f32⟩
  | 86 => ⟨S65536x32, .f32⟩
  | 87 => ⟨S65536x32, .i1⟩
  | 88 => ⟨S_, .f32⟩
  | 89 => ⟨S_, .f32⟩
  | 90 => ⟨S65536x32, .f32⟩
  | 91 => ⟨S65536x32, .f32⟩
  | 92 => ⟨S65536x32, .f32⟩
  | 93 => ⟨S65536x32, .f32⟩
  | 94 => ⟨S_, .f32⟩
  | 95 => ⟨S_, .f32⟩
  | 96 => ⟨S65536x32, .f32⟩
  | 97 => ⟨S65536x32, .f32⟩
  | 98 => ⟨S_, .f32⟩
  | 99 => ⟨S65536, .f32⟩
  | 100 => ⟨S65536, .f32⟩
  | 101 => ⟨S_, .f32⟩
  | 102 => ⟨S_, .f32⟩
  | 103 => ⟨S65536, .f32⟩
  | 104 => ⟨S65536, .f32⟩
  | 105 => ⟨S_, .f32⟩
  | 106 => ⟨S_, .f32⟩
  | 107 => ⟨S_, .f32⟩
  | 108 => ⟨S_, .f32⟩
  | 109 => ⟨S32x10, .f32⟩
  | 110 => ⟨S65536x10, .f32⟩
  | 111 => ⟨S1x10, .f32⟩
  | 112 => ⟨S65536x10, .f32⟩
  | 113 => ⟨S65536x10, .f32⟩
  | 114 => ⟨S_, .f32⟩
  | 115 => ⟨S65536x10, .f32⟩
  | 116 => ⟨S65536x10, .f32⟩
  | 117 => ⟨S_, .f32⟩
  | 118 => ⟨S65536, .f32⟩
  | 119 => ⟨S_, .f32⟩
  | 120 => ⟨S65536, .f32⟩
  | 121 => ⟨S65536, .f32⟩
  | 122 => ⟨S65536x1, .f32⟩
  | 123 => ⟨S65536x10, .f32⟩
  | 124 => ⟨S65536x10, .f32⟩
  | 125 => ⟨S65536x10, .f32⟩
  | 126 => ⟨S_, .f32⟩
  | 127 => ⟨S65536, .f32⟩
  | _ => ⟨S65536x784, .f32⟩

abbrev hbmTy0_4 (i : Nat) : BufTy := match i % 128 with
  | 0 => ⟨S65536x1, .f32⟩
  | 1 => ⟨S65536x1, .f32⟩
  | 2 => ⟨S65536x10, .f32⟩
  | 3 => ⟨S65536x10, .f32⟩
  | _ => ⟨S65536x784, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S65536x784, .f32⟩

abbrev bufTy : (tb : Table) → Fin (tcTables nBuf tb) → BufTy
  | .hbm, ⟨i, _⟩ => hbmTy i
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_4 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c : Ref sig .tc := ⟨.hbm, 49, rfl⟩
abbrev main_c_5 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_c_6 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_7 : Ref sig .tc := ⟨.hbm, 65, rfl⟩
abbrev main_v30 : Ref sig .tc := ⟨.hbm, 66, rfl⟩
abbrev main_c_8 : Ref sig .tc := ⟨.hbm, 67, rfl⟩
abbrev main_v31 : Ref sig .tc := ⟨.hbm, 68, rfl⟩
abbrev main_v32 : Ref sig .tc := ⟨.hbm, 69, rfl⟩
abbrev main_c_9 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_10 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_11 : Ref sig .tc := ⟨.hbm, 79, rfl⟩
abbrev main_v40 : Ref sig .tc := ⟨.hbm, 80, rfl⟩
abbrev main_v41 : Ref sig .tc := ⟨.hbm, 81, rfl⟩
abbrev main_cst_12 : Ref sig .tc := ⟨.hbm, 82, rfl⟩
abbrev main_v42 : Ref sig .tc := ⟨.hbm, 83, rfl⟩
abbrev main_v43 : Ref sig .tc := ⟨.hbm, 84, rfl⟩
abbrev main_cst_13 : Ref sig .tc := ⟨.hbm, 85, rfl⟩
abbrev main_v44 : Ref sig .tc := ⟨.hbm, 86, rfl⟩
abbrev main_v45 : Ref sig .tc := ⟨.hbm, 87, rfl⟩
abbrev main_cst_14 : Ref sig .tc := ⟨.hbm, 88, rfl⟩
abbrev main_call3_v0 : Ref sig .tc := ⟨.hbm, 89, rfl⟩
abbrev main_call3_v1 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_cst_15 : Ref sig .tc := ⟨.hbm, 94, rfl⟩
abbrev main_call4_v0 : Ref sig .tc := ⟨.hbm, 95, rfl⟩
abbrev main_call4_v1 : Ref sig .tc := ⟨.hbm, 96, rfl⟩
abbrev main_v49 : Ref sig .tc := ⟨.hbm, 97, rfl⟩
abbrev main_cst_16 : Ref sig .tc := ⟨.hbm, 98, rfl⟩
abbrev main_v50 : Ref sig .tc := ⟨.hbm, 99, rfl⟩
abbrev main_v51 : Ref sig .tc := ⟨.hbm, 100, rfl⟩
abbrev main_cst_17 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_cst_18 : Ref sig .tc := ⟨.hbm, 105, rfl⟩
abbrev main_v55 : Ref sig .tc := ⟨.hbm, 106, rfl⟩
abbrev main_cst_19 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_cst_20 : Ref sig .tc := ⟨.hbm, 114, rfl⟩
abbrev main_call5_cst : Ref sig .tc := ⟨.hbm, 115, rfl⟩
abbrev main_call5_v0 : Ref sig .tc := ⟨.hbm, 116, rfl⟩
abbrev main_call5_v1 : Ref sig .tc := ⟨.hbm, 117, rfl⟩
abbrev main_call5_v2 : Ref sig .tc := ⟨.hbm, 118, rfl⟩
abbrev main_call5_v3 : Ref sig .tc := ⟨.hbm, 119, rfl⟩
abbrev main_call5_v4 : Ref sig .tc := ⟨.hbm, 120, rfl⟩
abbrev main_v62 : Ref sig .tc := ⟨.hbm, 121, rfl⟩
abbrev main_cst_21 : Ref sig .tc := ⟨.hbm, 122, rfl⟩
abbrev main_v63 : Ref sig .tc := ⟨.hbm, 123, rfl⟩
abbrev main_v64 : Ref sig .tc := ⟨.hbm, 124, rfl⟩
abbrev main_cst_22 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_cst_23 : Ref sig .tc := ⟨.hbm, 129, rfl⟩
abbrev main_v68 : Ref sig .tc := ⟨.hbm, 130, rfl⟩
abbrev main_v69 : Ref sig .tc := ⟨.hbm, 131, rfl⟩
abbrev main_cst_24 : Ref sig .tc := ⟨.hbm, 132, rfl⟩
abbrev main_call6_v0 : Ref sig .tc := ⟨.hbm, 133, rfl⟩
abbrev main_call6_v1 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_cst_25 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_c_26 : Ref sig .tc := ⟨.hbm, 145, rfl⟩
abbrev main_c_27 : Ref sig .tc := ⟨.hbm, 146, rfl⟩
abbrev main_call7_v0 : Ref sig .tc := ⟨.hbm, 147, rfl⟩
abbrev main_call7_v1 : Ref sig .tc := ⟨.hbm, 148, rfl⟩
abbrev main_call7_v2 : Ref sig .tc := ⟨.hbm, 149, rfl⟩
abbrev main_call7_v3 : Ref sig .tc := ⟨.hbm, 150, rfl⟩
abbrev main_call7_v4 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_c_28 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_cst_29 : Ref sig .tc := ⟨.hbm, 161, rfl⟩
abbrev main_v87 : Ref sig .tc := ⟨.hbm, 162, rfl⟩
abbrev main_c_30 : Ref sig .tc := ⟨.hbm, 163, rfl⟩
abbrev main_v88 : Ref sig .tc := ⟨.hbm, 164, rfl⟩
abbrev main_v89 : Ref sig .tc := ⟨.hbm, 165, rfl⟩
abbrev main_c_31 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_cst_32 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_cst_33 : Ref sig .tc := ⟨.hbm, 175, rfl⟩
abbrev main_v97 : Ref sig .tc := ⟨.hbm, 176, rfl⟩
abbrev main_v98 : Ref sig .tc := ⟨.hbm, 177, rfl⟩
abbrev main_cst_34 : Ref sig .tc := ⟨.hbm, 178, rfl⟩
abbrev main_v99 : Ref sig .tc := ⟨.hbm, 179, rfl⟩
abbrev main_v100 : Ref sig .tc := ⟨.hbm, 180, rfl⟩
abbrev main_cst_35 : Ref sig .tc := ⟨.hbm, 181, rfl⟩
abbrev main_v101 : Ref sig .tc := ⟨.hbm, 182, rfl⟩
abbrev main_v102 : Ref sig .tc := ⟨.hbm, 183, rfl⟩
abbrev main_cst_36 : Ref sig .tc := ⟨.hbm, 184, rfl⟩
abbrev main_call8_v0 : Ref sig .tc := ⟨.hbm, 185, rfl⟩
abbrev main_call8_v1 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_cst_37 : Ref sig .tc := ⟨.hbm, 190, rfl⟩
abbrev main_call9_v0 : Ref sig .tc := ⟨.hbm, 191, rfl⟩
abbrev main_call9_v1 : Ref sig .tc := ⟨.hbm, 192, rfl⟩
abbrev main_v106 : Ref sig .tc := ⟨.hbm, 193, rfl⟩
abbrev main_cst_38 : Ref sig .tc := ⟨.hbm, 194, rfl⟩
abbrev main_v107 : Ref sig .tc := ⟨.hbm, 195, rfl⟩
abbrev main_v108 : Ref sig .tc := ⟨.hbm, 196, rfl⟩
abbrev main_cst_39 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_cst_40 : Ref sig .tc := ⟨.hbm, 201, rfl⟩
abbrev main_v112 : Ref sig .tc := ⟨.hbm, 202, rfl⟩
abbrev main_cst_41 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_cst_42 : Ref sig .tc := ⟨.hbm, 210, rfl⟩
abbrev main_call10_cst : Ref sig .tc := ⟨.hbm, 211, rfl⟩
abbrev main_call10_v0 : Ref sig .tc := ⟨.hbm, 212, rfl⟩
abbrev main_call10_v1 : Ref sig .tc := ⟨.hbm, 213, rfl⟩
abbrev main_call10_v2 : Ref sig .tc := ⟨.hbm, 214, rfl⟩
abbrev main_call10_v3 : Ref sig .tc := ⟨.hbm, 215, rfl⟩
abbrev main_call10_v4 : Ref sig .tc := ⟨.hbm, 216, rfl⟩
abbrev main_v119 : Ref sig .tc := ⟨.hbm, 217, rfl⟩
abbrev main_cst_43 : Ref sig .tc := ⟨.hbm, 218, rfl⟩
abbrev main_v120 : Ref sig .tc := ⟨.hbm, 219, rfl⟩
abbrev main_v121 : Ref sig .tc := ⟨.hbm, 220, rfl⟩
abbrev main_cst_44 : Ref sig .tc := ⟨.hbm, 221, rfl⟩
abbrev main_v122 : Ref sig .tc := ⟨.hbm, 222, rfl⟩
abbrev main_v123 : Ref sig .tc := ⟨.hbm, 223, rfl⟩
abbrev main_v124 : Ref sig .tc := ⟨.hbm, 224, rfl⟩
abbrev main_cst_45 : Ref sig .tc := ⟨.hbm, 225, rfl⟩
abbrev main_v125 : Ref sig .tc := ⟨.hbm, 226, rfl⟩
abbrev main_v126 : Ref sig .tc := ⟨.hbm, 227, rfl⟩
abbrev main_cst_46 : Ref sig .tc := ⟨.hbm, 228, rfl⟩
abbrev main_call11_v0 : Ref sig .tc := ⟨.hbm, 229, rfl⟩
abbrev main_call11_v1 : Ref sig .tc := ⟨.hbm, 230, rfl⟩
abbrev main_v127 : Ref sig .tc := ⟨.hbm, 231, rfl⟩
abbrev main_v128 : Ref sig .tc := ⟨.hbm, 232, rfl⟩
abbrev main_v129 : Ref sig .tc := ⟨.hbm, 233, rfl⟩
abbrev main_v130 : Ref sig .tc := ⟨.hbm, 234, rfl⟩
abbrev main_v131 : Ref sig .tc := ⟨.hbm, 235, rfl⟩
abbrev main_cst_47 : Ref sig .tc := ⟨.hbm, 236, rfl⟩
abbrev main_v132 : Ref sig .tc := ⟨.hbm, 237, rfl⟩
abbrev main_v133 : Ref sig .tc := ⟨.hbm, 238, rfl⟩
abbrev main_v134 : Ref sig .tc := ⟨.hbm, 239, rfl⟩
abbrev main_v135 : Ref sig .tc := ⟨.hbm, 240, rfl⟩
abbrev main_c_48 : Ref sig .tc := ⟨.hbm, 241, rfl⟩
abbrev main_c_49 : Ref sig .tc := ⟨.hbm, 242, rfl⟩
abbrev main_call12_v0 : Ref sig .tc := ⟨.hbm, 243, rfl⟩
abbrev main_call12_v1 : Ref sig .tc := ⟨.hbm, 244, rfl⟩
abbrev main_call12_v2 : Ref sig .tc := ⟨.hbm, 245, rfl⟩
abbrev main_call12_v3 : Ref sig .tc := ⟨.hbm, 246, rfl⟩
abbrev main_call12_v4 : Ref sig .tc := ⟨.hbm, 247, rfl⟩
abbrev main_v136 : Ref sig .tc := ⟨.hbm, 248, rfl⟩
abbrev main_v137 : Ref sig .tc := ⟨.hbm, 249, rfl⟩
abbrev main_v138 : Ref sig .tc := ⟨.hbm, 250, rfl⟩
abbrev main_c_50 : Ref sig .tc := ⟨.hbm, 251, rfl⟩
abbrev main_v139 : Ref sig .tc := ⟨.hbm, 252, rfl⟩
abbrev main_v140 : Ref sig .tc := ⟨.hbm, 253, rfl⟩
abbrev main_v141 : Ref sig .tc := ⟨.hbm, 254, rfl⟩
abbrev main_v142 : Ref sig .tc := ⟨.hbm, 255, rfl⟩
abbrev main_v143 : Ref sig .tc := ⟨.hbm, 256, rfl⟩
abbrev main_cst_51 : Ref sig .tc := ⟨.hbm, 257, rfl⟩
abbrev main_v144 : Ref sig .tc := ⟨.hbm, 258, rfl⟩
abbrev main_c_52 : Ref sig .tc := ⟨.hbm, 259, rfl⟩
abbrev main_v145 : Ref sig .tc := ⟨.hbm, 260, rfl⟩
abbrev main_v146 : Ref sig .tc := ⟨.hbm, 261, rfl⟩
abbrev main_c_53 : Ref sig .tc := ⟨.hbm, 262, rfl⟩
abbrev main_v147 : Ref sig .tc := ⟨.hbm, 263, rfl⟩
abbrev main_v148 : Ref sig .tc := ⟨.hbm, 264, rfl⟩
abbrev main_v149 : Ref sig .tc := ⟨.hbm, 265, rfl⟩
abbrev main_v150 : Ref sig .tc := ⟨.hbm, 266, rfl⟩
abbrev main_cst_54 : Ref sig .tc := ⟨.hbm, 267, rfl⟩
abbrev main_v151 : Ref sig .tc := ⟨.hbm, 268, rfl⟩
abbrev main_v152 : Ref sig .tc := ⟨.hbm, 269, rfl⟩
abbrev main_v153 : Ref sig .tc := ⟨.hbm, 270, rfl⟩
abbrev main_cst_55 : Ref sig .tc := ⟨.hbm, 271, rfl⟩
abbrev main_v154 : Ref sig .tc := ⟨.hbm, 272, rfl⟩
abbrev main_v155 : Ref sig .tc := ⟨.hbm, 273, rfl⟩
abbrev main_cst_56 : Ref sig .tc := ⟨.hbm, 274, rfl⟩
abbrev main_v156 : Ref sig .tc := ⟨.hbm, 275, rfl⟩
abbrev main_v157 : Ref sig .tc := ⟨.hbm, 276, rfl⟩
abbrev main_cst_57 : Ref sig .tc := ⟨.hbm, 277, rfl⟩
abbrev main_v158 : Ref sig .tc := ⟨.hbm, 278, rfl⟩
abbrev main_v159 : Ref sig .tc := ⟨.hbm, 279, rfl⟩
abbrev main_cst_58 : Ref sig .tc := ⟨.hbm, 280, rfl⟩
abbrev main_call13_v0 : Ref sig .tc := ⟨.hbm, 281, rfl⟩
abbrev main_call13_v1 : Ref sig .tc := ⟨.hbm, 282, rfl⟩
abbrev main_v160 : Ref sig .tc := ⟨.hbm, 283, rfl⟩
abbrev main_v161 : Ref sig .tc := ⟨.hbm, 284, rfl⟩
abbrev main_v162 : Ref sig .tc := ⟨.hbm, 285, rfl⟩
abbrev main_cst_59 : Ref sig .tc := ⟨.hbm, 286, rfl⟩
abbrev main_call14_v0 : Ref sig .tc := ⟨.hbm, 287, rfl⟩
abbrev main_call14_v1 : Ref sig .tc := ⟨.hbm, 288, rfl⟩
abbrev main_v163 : Ref sig .tc := ⟨.hbm, 289, rfl⟩
abbrev main_cst_60 : Ref sig .tc := ⟨.hbm, 290, rfl⟩
abbrev main_v164 : Ref sig .tc := ⟨.hbm, 291, rfl⟩
abbrev main_v165 : Ref sig .tc := ⟨.hbm, 292, rfl⟩
abbrev main_cst_61 : Ref sig .tc := ⟨.hbm, 293, rfl⟩
abbrev main_v166 : Ref sig .tc := ⟨.hbm, 294, rfl⟩
abbrev main_v167 : Ref sig .tc := ⟨.hbm, 295, rfl⟩
abbrev main_v168 : Ref sig .tc := ⟨.hbm, 296, rfl⟩
abbrev main_cst_62 : Ref sig .tc := ⟨.hbm, 297, rfl⟩
abbrev main_v169 : Ref sig .tc := ⟨.hbm, 298, rfl⟩
abbrev main_cst_63 : Ref sig .tc := ⟨.hbm, 299, rfl⟩
abbrev main_v170 : Ref sig .tc := ⟨.hbm, 300, rfl⟩
abbrev main_v171 : Ref sig .tc := ⟨.hbm, 301, rfl⟩
abbrev main_v172 : Ref sig .tc := ⟨.hbm, 302, rfl⟩
abbrev main_v173 : Ref sig .tc := ⟨.hbm, 303, rfl⟩
abbrev main_v174 : Ref sig .tc := ⟨.hbm, 304, rfl⟩
abbrev main_v175 : Ref sig .tc := ⟨.hbm, 305, rfl⟩
abbrev main_cst_64 : Ref sig .tc := ⟨.hbm, 306, rfl⟩
abbrev main_call15_cst : Ref sig .tc := ⟨.hbm, 307, rfl⟩
abbrev main_call15_v0 : Ref sig .tc := ⟨.hbm, 308, rfl⟩
abbrev main_call15_v1 : Ref sig .tc := ⟨.hbm, 309, rfl⟩
abbrev main_call15_v2 : Ref sig .tc := ⟨.hbm, 310, rfl⟩
abbrev main_call15_v3 : Ref sig .tc := ⟨.hbm, 311, rfl⟩
abbrev main_call15_v4 : Ref sig .tc := ⟨.hbm, 312, rfl⟩
abbrev main_v176 : Ref sig .tc := ⟨.hbm, 313, rfl⟩
abbrev main_cst_65 : Ref sig .tc := ⟨.hbm, 314, rfl⟩
abbrev main_v177 : Ref sig .tc := ⟨.hbm, 315, rfl⟩
abbrev main_v178 : Ref sig .tc := ⟨.hbm, 316, rfl⟩
abbrev main_cst_66 : Ref sig .tc := ⟨.hbm, 317, rfl⟩
abbrev main_v179 : Ref sig .tc := ⟨.hbm, 318, rfl⟩
abbrev main_v180 : Ref sig .tc := ⟨.hbm, 319, rfl⟩
abbrev main_v181 : Ref sig .tc := ⟨.hbm, 320, rfl⟩
abbrev main_cst_67 : Ref sig .tc := ⟨.hbm, 321, rfl⟩
abbrev main_v182 : Ref sig .tc := ⟨.hbm, 322, rfl⟩
abbrev main_v183 : Ref sig .tc := ⟨.hbm, 323, rfl⟩
abbrev main_cst_68 : Ref sig .tc := ⟨.hbm, 324, rfl⟩
abbrev main_call16_v0 : Ref sig .tc := ⟨.hbm, 325, rfl⟩
abbrev main_call16_v1 : Ref sig .tc := ⟨.hbm, 326, rfl⟩
abbrev main_v184 : Ref sig .tc := ⟨.hbm, 327, rfl⟩
abbrev main_v185 : Ref sig .tc := ⟨.hbm, 328, rfl⟩
abbrev main_v186 : Ref sig .tc := ⟨.hbm, 329, rfl⟩
abbrev main_v187 : Ref sig .tc := ⟨.hbm, 330, rfl⟩
abbrev main_v188 : Ref sig .tc := ⟨.hbm, 331, rfl⟩
abbrev main_cst_69 : Ref sig .tc := ⟨.hbm, 332, rfl⟩
abbrev main_v189 : Ref sig .tc := ⟨.hbm, 333, rfl⟩
abbrev main_v190 : Ref sig .tc := ⟨.hbm, 334, rfl⟩
abbrev main_v191 : Ref sig .tc := ⟨.hbm, 335, rfl⟩
abbrev main_v192 : Ref sig .tc := ⟨.hbm, 336, rfl⟩
abbrev main_c_70 : Ref sig .tc := ⟨.hbm, 337, rfl⟩
abbrev main_c_71 : Ref sig .tc := ⟨.hbm, 338, rfl⟩
abbrev main_call17_v0 : Ref sig .tc := ⟨.hbm, 339, rfl⟩
abbrev main_call17_v1 : Ref sig .tc := ⟨.hbm, 340, rfl⟩
abbrev main_call17_v2 : Ref sig .tc := ⟨.hbm, 341, rfl⟩
abbrev main_call17_v3 : Ref sig .tc := ⟨.hbm, 342, rfl⟩
abbrev main_call17_v4 : Ref sig .tc := ⟨.hbm, 343, rfl⟩
abbrev main_v193 : Ref sig .tc := ⟨.hbm, 344, rfl⟩
abbrev main_v194 : Ref sig .tc := ⟨.hbm, 345, rfl⟩
abbrev main_v195 : Ref sig .tc := ⟨.hbm, 346, rfl⟩
abbrev main_c_72 : Ref sig .tc := ⟨.hbm, 347, rfl⟩
abbrev main_v196 : Ref sig .tc := ⟨.hbm, 348, rfl⟩
abbrev main_v197 : Ref sig .tc := ⟨.hbm, 349, rfl⟩
abbrev main_v198 : Ref sig .tc := ⟨.hbm, 350, rfl⟩
abbrev main_v199 : Ref sig .tc := ⟨.hbm, 351, rfl⟩
abbrev main_v200 : Ref sig .tc := ⟨.hbm, 352, rfl⟩
abbrev main_cst_73 : Ref sig .tc := ⟨.hbm, 353, rfl⟩
abbrev main_v201 : Ref sig .tc := ⟨.hbm, 354, rfl⟩
abbrev main_c_74 : Ref sig .tc := ⟨.hbm, 355, rfl⟩
abbrev main_v202 : Ref sig .tc := ⟨.hbm, 356, rfl⟩
abbrev main_v203 : Ref sig .tc := ⟨.hbm, 357, rfl⟩
abbrev main_c_75 : Ref sig .tc := ⟨.hbm, 358, rfl⟩
abbrev main_v204 : Ref sig .tc := ⟨.hbm, 359, rfl⟩
abbrev main_v205 : Ref sig .tc := ⟨.hbm, 360, rfl⟩
abbrev main_v206 : Ref sig .tc := ⟨.hbm, 361, rfl⟩
abbrev main_v207 : Ref sig .tc := ⟨.hbm, 362, rfl⟩
abbrev main_cst_76 : Ref sig .tc := ⟨.hbm, 363, rfl⟩
abbrev main_v208 : Ref sig .tc := ⟨.hbm, 364, rfl⟩
abbrev main_v209 : Ref sig .tc := ⟨.hbm, 365, rfl⟩
abbrev main_v210 : Ref sig .tc := ⟨.hbm, 366, rfl⟩
abbrev main_cst_77 : Ref sig .tc := ⟨.hbm, 367, rfl⟩
abbrev main_v211 : Ref sig .tc := ⟨.hbm, 368, rfl⟩
abbrev main_v212 : Ref sig .tc := ⟨.hbm, 369, rfl⟩
abbrev main_cst_78 : Ref sig .tc := ⟨.hbm, 370, rfl⟩
abbrev main_v213 : Ref sig .tc := ⟨.hbm, 371, rfl⟩
abbrev main_v214 : Ref sig .tc := ⟨.hbm, 372, rfl⟩
abbrev main_cst_79 : Ref sig .tc := ⟨.hbm, 373, rfl⟩
abbrev main_v215 : Ref sig .tc := ⟨.hbm, 374, rfl⟩
abbrev main_v216 : Ref sig .tc := ⟨.hbm, 375, rfl⟩
abbrev main_cst_80 : Ref sig .tc := ⟨.hbm, 376, rfl⟩
abbrev main_call18_v0 : Ref sig .tc := ⟨.hbm, 377, rfl⟩
abbrev main_call18_v1 : Ref sig .tc := ⟨.hbm, 378, rfl⟩
abbrev main_v217 : Ref sig .tc := ⟨.hbm, 379, rfl⟩
abbrev main_v218 : Ref sig .tc := ⟨.hbm, 380, rfl⟩
abbrev main_v219 : Ref sig .tc := ⟨.hbm, 381, rfl⟩
abbrev main_cst_81 : Ref sig .tc := ⟨.hbm, 382, rfl⟩
abbrev main_call19_v0 : Ref sig .tc := ⟨.hbm, 383, rfl⟩
abbrev main_call19_v1 : Ref sig .tc := ⟨.hbm, 384, rfl⟩
abbrev main_v220 : Ref sig .tc := ⟨.hbm, 385, rfl⟩
abbrev main_cst_82 : Ref sig .tc := ⟨.hbm, 386, rfl⟩
abbrev main_v221 : Ref sig .tc := ⟨.hbm, 387, rfl⟩
abbrev main_v222 : Ref sig .tc := ⟨.hbm, 388, rfl⟩
abbrev main_cst_83 : Ref sig .tc := ⟨.hbm, 389, rfl⟩
abbrev main_v223 : Ref sig .tc := ⟨.hbm, 390, rfl⟩
abbrev main_v224 : Ref sig .tc := ⟨.hbm, 391, rfl⟩
abbrev main_v225 : Ref sig .tc := ⟨.hbm, 392, rfl⟩
abbrev main_cst_84 : Ref sig .tc := ⟨.hbm, 393, rfl⟩
abbrev main_v226 : Ref sig .tc := ⟨.hbm, 394, rfl⟩
abbrev main_cst_85 : Ref sig .tc := ⟨.hbm, 395, rfl⟩
abbrev main_v227 : Ref sig .tc := ⟨.hbm, 396, rfl⟩
abbrev main_v228 : Ref sig .tc := ⟨.hbm, 397, rfl⟩
abbrev main_v229 : Ref sig .tc := ⟨.hbm, 398, rfl⟩
abbrev main_v230 : Ref sig .tc := ⟨.hbm, 399, rfl⟩
abbrev main_v231 : Ref sig .tc := ⟨.hbm, 400, rfl⟩
abbrev main_v232 : Ref sig .tc := ⟨.hbm, 401, rfl⟩
abbrev main_cst_86 : Ref sig .tc := ⟨.hbm, 402, rfl⟩
abbrev main_call20_cst : Ref sig .tc := ⟨.hbm, 403, rfl⟩
abbrev main_call20_v0 : Ref sig .tc := ⟨.hbm, 404, rfl⟩
abbrev main_call20_v1 : Ref sig .tc := ⟨.hbm, 405, rfl⟩
abbrev main_call20_v2 : Ref sig .tc := ⟨.hbm, 406, rfl⟩
abbrev main_call20_v3 : Ref sig .tc := ⟨.hbm, 407, rfl⟩
abbrev main_call20_v4 : Ref sig .tc := ⟨.hbm, 408, rfl⟩
abbrev main_v233 : Ref sig .tc := ⟨.hbm, 409, rfl⟩
abbrev main_cst_87 : Ref sig .tc := ⟨.hbm, 410, rfl⟩
abbrev main_v234 : Ref sig .tc := ⟨.hbm, 411, rfl⟩
abbrev main_v235 : Ref sig .tc := ⟨.hbm, 412, rfl⟩
abbrev main_cst_88 : Ref sig .tc := ⟨.hbm, 413, rfl⟩
abbrev main_v236 : Ref sig .tc := ⟨.hbm, 414, rfl⟩
abbrev main_v237 : Ref sig .tc := ⟨.hbm, 415, rfl⟩
abbrev main_v238 : Ref sig .tc := ⟨.hbm, 416, rfl⟩
abbrev main_cst_89 : Ref sig .tc := ⟨.hbm, 417, rfl⟩
abbrev main_v239 : Ref sig .tc := ⟨.hbm, 418, rfl⟩
abbrev main_v240 : Ref sig .tc := ⟨.hbm, 419, rfl⟩
abbrev main_cst_90 : Ref sig .tc := ⟨.hbm, 420, rfl⟩
abbrev main_call21_v0 : Ref sig .tc := ⟨.hbm, 421, rfl⟩
abbrev main_call21_v1 : Ref sig .tc := ⟨.hbm, 422, rfl⟩
abbrev main_v241 : Ref sig .tc := ⟨.hbm, 423, rfl⟩
abbrev main_v242 : Ref sig .tc := ⟨.hbm, 424, rfl⟩
abbrev main_v243 : Ref sig .tc := ⟨.hbm, 425, rfl⟩
abbrev main_v244 : Ref sig .tc := ⟨.hbm, 426, rfl⟩
abbrev main_v245 : Ref sig .tc := ⟨.hbm, 427, rfl⟩
abbrev main_cst_91 : Ref sig .tc := ⟨.hbm, 428, rfl⟩
abbrev main_v246 : Ref sig .tc := ⟨.hbm, 429, rfl⟩
abbrev main_v247 : Ref sig .tc := ⟨.hbm, 430, rfl⟩
abbrev main_v248 : Ref sig .tc := ⟨.hbm, 431, rfl⟩
abbrev main_v249 : Ref sig .tc := ⟨.hbm, 432, rfl⟩
abbrev main_c_92 : Ref sig .tc := ⟨.hbm, 433, rfl⟩
abbrev main_c_93 : Ref sig .tc := ⟨.hbm, 434, rfl⟩
abbrev main_call22_v0 : Ref sig .tc := ⟨.hbm, 435, rfl⟩
abbrev main_call22_v1 : Ref sig .tc := ⟨.hbm, 436, rfl⟩
abbrev main_call22_v2 : Ref sig .tc := ⟨.hbm, 437, rfl⟩
abbrev main_call22_v3 : Ref sig .tc := ⟨.hbm, 438, rfl⟩
abbrev main_call22_v4 : Ref sig .tc := ⟨.hbm, 439, rfl⟩
abbrev main_v250 : Ref sig .tc := ⟨.hbm, 440, rfl⟩
abbrev main_v251 : Ref sig .tc := ⟨.hbm, 441, rfl⟩
abbrev main_v252 : Ref sig .tc := ⟨.hbm, 442, rfl⟩
abbrev main_c_94 : Ref sig .tc := ⟨.hbm, 443, rfl⟩
abbrev main_v253 : Ref sig .tc := ⟨.hbm, 444, rfl⟩
abbrev main_v254 : Ref sig .tc := ⟨.hbm, 445, rfl⟩
abbrev main_v255 : Ref sig .tc := ⟨.hbm, 446, rfl⟩
abbrev main_v256 : Ref sig .tc := ⟨.hbm, 447, rfl⟩
abbrev main_v257 : Ref sig .tc := ⟨.hbm, 448, rfl⟩
abbrev main_cst_95 : Ref sig .tc := ⟨.hbm, 449, rfl⟩
abbrev main_v258 : Ref sig .tc := ⟨.hbm, 450, rfl⟩
abbrev main_c_96 : Ref sig .tc := ⟨.hbm, 451, rfl⟩
abbrev main_v259 : Ref sig .tc := ⟨.hbm, 452, rfl⟩
abbrev main_v260 : Ref sig .tc := ⟨.hbm, 453, rfl⟩
abbrev main_c_97 : Ref sig .tc := ⟨.hbm, 454, rfl⟩
abbrev main_v261 : Ref sig .tc := ⟨.hbm, 455, rfl⟩
abbrev main_v262 : Ref sig .tc := ⟨.hbm, 456, rfl⟩
abbrev main_v263 : Ref sig .tc := ⟨.hbm, 457, rfl⟩
abbrev main_v264 : Ref sig .tc := ⟨.hbm, 458, rfl⟩
abbrev main_cst_98 : Ref sig .tc := ⟨.hbm, 459, rfl⟩
abbrev main_v265 : Ref sig .tc := ⟨.hbm, 460, rfl⟩
abbrev main_v266 : Ref sig .tc := ⟨.hbm, 461, rfl⟩
abbrev main_v267 : Ref sig .tc := ⟨.hbm, 462, rfl⟩
abbrev main_cst_99 : Ref sig .tc := ⟨.hbm, 463, rfl⟩
abbrev main_v268 : Ref sig .tc := ⟨.hbm, 464, rfl⟩
abbrev main_v269 : Ref sig .tc := ⟨.hbm, 465, rfl⟩
abbrev main_cst_100 : Ref sig .tc := ⟨.hbm, 466, rfl⟩
abbrev main_v270 : Ref sig .tc := ⟨.hbm, 467, rfl⟩
abbrev main_v271 : Ref sig .tc := ⟨.hbm, 468, rfl⟩
abbrev main_cst_101 : Ref sig .tc := ⟨.hbm, 469, rfl⟩
abbrev main_v272 : Ref sig .tc := ⟨.hbm, 470, rfl⟩
abbrev main_v273 : Ref sig .tc := ⟨.hbm, 471, rfl⟩
abbrev main_cst_102 : Ref sig .tc := ⟨.hbm, 472, rfl⟩
abbrev main_call23_v0 : Ref sig .tc := ⟨.hbm, 473, rfl⟩
abbrev main_call23_v1 : Ref sig .tc := ⟨.hbm, 474, rfl⟩
abbrev main_v274 : Ref sig .tc := ⟨.hbm, 475, rfl⟩
abbrev main_v275 : Ref sig .tc := ⟨.hbm, 476, rfl⟩
abbrev main_v276 : Ref sig .tc := ⟨.hbm, 477, rfl⟩
abbrev main_cst_103 : Ref sig .tc := ⟨.hbm, 478, rfl⟩
abbrev main_call24_v0 : Ref sig .tc := ⟨.hbm, 479, rfl⟩
abbrev main_call24_v1 : Ref sig .tc := ⟨.hbm, 480, rfl⟩
abbrev main_v277 : Ref sig .tc := ⟨.hbm, 481, rfl⟩
abbrev main_cst_104 : Ref sig .tc := ⟨.hbm, 482, rfl⟩
abbrev main_v278 : Ref sig .tc := ⟨.hbm, 483, rfl⟩
abbrev main_v279 : Ref sig .tc := ⟨.hbm, 484, rfl⟩
abbrev main_cst_105 : Ref sig .tc := ⟨.hbm, 485, rfl⟩
abbrev main_v280 : Ref sig .tc := ⟨.hbm, 486, rfl⟩
abbrev main_v281 : Ref sig .tc := ⟨.hbm, 487, rfl⟩
abbrev main_v282 : Ref sig .tc := ⟨.hbm, 488, rfl⟩
abbrev main_cst_106 : Ref sig .tc := ⟨.hbm, 489, rfl⟩
abbrev main_v283 : Ref sig .tc := ⟨.hbm, 490, rfl⟩
abbrev main_cst_107 : Ref sig .tc := ⟨.hbm, 491, rfl⟩
abbrev main_v284 : Ref sig .tc := ⟨.hbm, 492, rfl⟩
abbrev main_v285 : Ref sig .tc := ⟨.hbm, 493, rfl⟩
abbrev main_v286 : Ref sig .tc := ⟨.hbm, 494, rfl⟩
abbrev main_v287 : Ref sig .tc := ⟨.hbm, 495, rfl⟩
abbrev main_v288 : Ref sig .tc := ⟨.hbm, 496, rfl⟩
abbrev main_v289 : Ref sig .tc := ⟨.hbm, 497, rfl⟩
abbrev main_call25_cst : Ref sig .tc := ⟨.hbm, 498, rfl⟩
abbrev main_call25_v0 : Ref sig .tc := ⟨.hbm, 499, rfl⟩
abbrev main_v290 : Ref sig .tc := ⟨.hbm, 500, rfl⟩
abbrev main_call26_cst : Ref sig .tc := ⟨.hbm, 501, rfl⟩
abbrev main_call26_v0 : Ref sig .tc := ⟨.hbm, 502, rfl⟩
abbrev main_call26_cst_0 : Ref sig .tc := ⟨.hbm, 503, rfl⟩
abbrev main_call26_v1 : Ref sig .tc := ⟨.hbm, 504, rfl⟩
abbrev main_call26_v2 : Ref sig .tc := ⟨.hbm, 505, rfl⟩
abbrev main_call26_v3 : Ref sig .tc := ⟨.hbm, 506, rfl⟩
abbrev main_call26_v4 : Ref sig .tc := ⟨.hbm, 507, rfl⟩
abbrev main_call26_v5 : Ref sig .tc := ⟨.hbm, 508, rfl⟩
abbrev main_call26_v6 : Ref sig .tc := ⟨.hbm, 509, rfl⟩
abbrev main_call26_cst_1 : Ref sig .tc := ⟨.hbm, 510, rfl⟩
abbrev main_call26_v7 : Ref sig .tc := ⟨.hbm, 511, rfl⟩
abbrev main_call26_v8 : Ref sig .tc := ⟨.hbm, 512, rfl⟩
abbrev main_call26_v9 : Ref sig .tc := ⟨.hbm, 513, rfl⟩
abbrev main_call26_v10 : Ref sig .tc := ⟨.hbm, 514, rfl⟩
abbrev main_v291 : Ref sig .tc := ⟨.hbm, 515, rfl⟩

abbrev nD : Nat := 1
abbrev τ : Topo := Topo.v7x

variable {F : FTy → Type} [FloatOps F]
-- ==== Proof.Net.lean ====
/-
  What one block of the network computes, as functions of the arrays' blocks: the layers, the bin index of every activation, the
  count of one bin, and the sum of `T · log T` over the bins, over any scalar values. The two printed kernels read these.
-/
module

public import Idealize.ShloMosaic.Lib.Exec

@[expose] public section

noncomputable section

namespace Cert.Proof.Net

open Idealize.ShloMosaic Idealize.SL.Sem

/-- The shape of a matrix of `r` rows and `c` columns. -/
abbrev Sh (r c : ℕ) : Shape := ⟨2, ![r, c]⟩
/-- The shape of one row of a block: one entry per sample of the block. -/
abbrev Row : Shape := ⟨1, ![512]⟩
/-- The same with the two leading unit axes that a row of the statistics array has. -/
abbrev Row3 : Shape := ⟨3, ![1, 1, 512]⟩

/-- The shorter format is narrower than the longer one. -/
theorem bits_lt : FTy.bits .bf16 < FTy.bits .f32 := by decide

variable {F : FTy → Type} [FloatOps F]

/-! ## The layers -/

/-- A leaky rectifier of a matrix: an entry that is not below zero is kept, another is scaled by the slope. -/
def leaky {s : Shape} (v : FVec F s .f32) : FVec F s .f32 :=
  select (cmpf .oge v (broadcast s (Scalar.ofBits .f32 0x00000000#32))) v
    (mulf (broadcast s (Scalar.ofBits .f32 0x3C23D70A#32)) v)

/-- A layer before its rectifier: the weights times the activations, plus the bias. -/
def affine {s t u : Shape} (dd : DotDims s t u) (hu : u.ShapeCasts u) (W : FVec F s .f32) (a : FVec F t .f32)
    (b : FVec F u .f32) : FVec F u .f32 :=
  addf (matmul dd none W a (constant u .f32 0x00000000#32)) (shapeCast u b hu)

/-! ## The bin index -/

/-- What the index of a `D`-row block reads: that its rows reduce to one row, and that one row broadcasts to it. -/
structure Rows (D : ℕ) : Prop where
  red : (Sh D 512).Reduces [0] Row
  bc : (Sh 1 512).Broadcasts (Sh D 512)
  cast : Row.ShapeCasts (Sh 1 512)

/-- The least entry of every column, as one row. -/
def colMin {D : ℕ} (h : Rows D) (a : FVec F (Sh D 512) .f32) : FVec F (Sh 1 512) .f32 :=
  shapeCast (Sh 1 512) (multiReduction .minimumf [0] Row a 0x7F800000#32 h.red (.inl rfl) rfl) h.cast

/-- The greatest entry of every column, as one row. -/
def colMax {D : ℕ} (h : Rows D) (a : FVec F (Sh D 512) .f32) : FVec F (Sh 1 512) .f32 :=
  shapeCast (Sh 1 512) (multiReduction .maximumf [0] Row a 0xFF800000#32 h.red (.inl rfl) rfl) h.cast

/-- The width of every column's range, or one where the range is empty. -/
def width {D : ℕ} (h : Rows D) (a : FVec F (Sh D 512) .f32) : FVec F (Sh 1 512) .f32 :=
  select (cmpf .ogt (subf (colMax h a) (colMin h a)) (broadcast (Sh 1 512) (Scalar.ofBits .f32 0x00000000#32)))
    (subf (colMax h a) (colMin h a)) (broadcast (Sh 1 512) (Scalar.ofBits .f32 0x3F800000#32))

/-- The bin of every entry: its place in the column's range, scaled to the bins and rounded down, held between zero and the last bin. -/
def index {D : ℕ} (h : Rows D) (bins last : BitVec 32) (a : FVec F (Sh D 512) .f32) : FVec F (Sh D 512) .bf16 :=
  truncf .bf16
    (minimumf
      (maximumf
        (floor
          (mulf (divf (subf a (broadcastTo (Sh D 512) (colMin h a) h.bc)) (broadcastTo (Sh D 512) (width h a) h.bc))
            (broadcast (Sh D 512) (Scalar.ofBits .f32 bins))))
        (broadcast (Sh D 512) (Scalar.ofBits .f32 0x00000000#32)))
      (broadcast (Sh D 512) (Scalar.ofBits .f32 last)))
    bits_lt

/-! ## The count of one bin -/

/-- The upper half of a block of rows added to its lower half. -/
def halve {m n : ℕ} (h0 : (Sh m 512).Slices ![0, 0] (Sh n 512)) (h1 : (Sh m 512).Slices ![n, 0] (Sh n 512))
    (v : FVec F (Sh m 512) .bf16) : FVec F (Sh n 512) .bf16 :=
  addf (extractStridedSlice (Sh n 512) ![0, 0] v h0) (extractStridedSlice (Sh n 512) ![n, 0] v h1)

/-- A block of 32 rows added down to 16, -/
def tree32 (v : FVec F (Sh 32 512) .bf16) : FVec F (Sh 16 512) .bf16 := halve (by decide) (by decide) v
/-- a block of 128 rows, -/
def tree128 (v : FVec F (Sh 128 512) .bf16) : FVec F (Sh 16 512) .bf16 :=
  tree32 (halve (m := 64) (by decide) (by decide) (halve (n := 64) (by decide) (by decide) v))
/-- a block of 256 rows. -/
def tree256 (v : FVec F (Sh 256 512) .bf16) : FVec F (Sh 16 512) .bf16 :=
  tree128 (halve (by decide) (by decide) v)

/-- The number of entries of every column whose bin is `j0 + w`: ones and zeros, added down by the tree and then over the rows left. -/
def count {D : ℕ} (tree : FVec F (Sh D 512) .bf16 → FVec F (Sh 16 512) .bf16) (idx : FVec F (Sh D 512) .bf16) (j0 : F .f32)
    (w : BitVec 32) : FVec F (Sh 1 512) .f32 :=
  shapeCast (Sh 1 512)
    (multiReduction .add [0] Row
      (extf .f32
        (tree (select (cmpf .oeq idx (broadcast (Sh D 512) (Scalar.truncf .bf16 bits_lt (Scalar.addf j0 (Scalar.ofBits .f32 w)))))
          (broadcast (Sh D 512) (Scalar.ofBits .bf16 0x3F80#16)) (broadcast (Sh D 512) (Scalar.ofBits .bf16 0x0000#16))))
        bits_lt)
      0x00000000#32 (by decide) (.inl rfl) rfl)
    (by decide)

/-- Eight rows are the block of eight, one after the other. -/
theorem stack_ok : Shape.Concatenates [Sh 1 512, Sh 1 512, Sh 1 512, Sh 1 512, Sh 1 512, Sh 1 512, Sh 1 512, Sh 1 512] (Sh 8 512) 0 := by
  decide

/-- Eight rows stacked. -/
def stack (c : Fin 8 → FVec F (Sh 1 512) .f32) : FVec F (Sh 8 512) .f32 :=
  concatenate (Sh 8 512) 0 [⟨Sh 1 512, c 0⟩, ⟨Sh 1 512, c 1⟩, ⟨Sh 1 512, c 2⟩, ⟨Sh 1 512, c 3⟩, ⟨Sh 1 512, c 4⟩, ⟨Sh 1 512, c 5⟩,
    ⟨Sh 1 512, c 6⟩, ⟨Sh 1 512, c 7⟩] stack_ok

/-- `T · log T` of every entry, the logarithm of a count below one read as that of one. -/
def tlogt (T : FVec F (Sh 8 512) .f32) : FVec F (Sh 8 512) .f32 :=
  mulf T (log (maximumf T (broadcast (Sh 8 512) (Scalar.ofBits .f32 0x3F800000#32))))

/-- The numbers below 64 as the words of their 32-bit floats. -/
def word : List (Fin 8 → BitVec 32) :=
  [![0x00000000#32, 0x3F800000#32, 0x40000000#32, 0x40400000#32, 0x40800000#32, 0x40A00000#32, 0x40C00000#32, 0x40E00000#32],
   ![0x41000000#32, 0x41100000#32, 0x41200000#32, 0x41300000#32, 0x41400000#32, 0x41500000#32, 0x41600000#32, 0x41700000#32],
   ![0x41800000#32, 0x41880000#32, 0x41900000#32, 0x41980000#32, 0x41A00000#32, 0x41A80000#32, 0x41B00000#32, 0x41B80000#32],
   ![0x41C00000#32, 0x41C80000#32, 0x41D00000#32, 0x41D80000#32, 0x41E00000#32, 0x41E80000#32, 0x41F00000#32, 0x41F80000#32],
   ![0x42000000#32, 0x42040000#32, 0x42080000#32, 0x420C0000#32, 0x42100000#32, 0x42140000#32, 0x42180000#32, 0x421C0000#32],
   ![0x42200000#32, 0x42240000#32, 0x42280000#32, 0x422C0000#32, 0x42300000#32, 0x42340000#32, 0x42380000#32, 0x423C0000#32],
   ![0x42400000#32, 0x42440000#32, 0x42480000#32, 0x424C0000#32, 0x42500000#32, 0x42540000#32, 0x42580000#32, 0x425C0000#32],
   ![0x42600000#32, 0x42640000#32, 0x42680000#32, 0x426C0000#32, 0x42700000#32, 0x42740000#32, 0x42780000#32, 0x427C0000#32]]

/-- The accumulator after the bins `j0 + w` for the words of `ws`, eight at a time. -/
def bins {D : ℕ} (tree : FVec F (Sh D 512) .bf16 → FVec F (Sh 16 512) .bf16) (idx : FVec F (Sh D 512) .bf16) (j0 : F .f32)
    (ws : List (Fin 8 → BitVec 32)) (acc : FVec F (Sh 8 512) .f32) : FVec F (Sh 8 512) .f32 :=
  ws.foldl (fun t w => addf t (tlogt (stack fun r => count tree idx j0 (w r)))) acc

/-- No bin counted. -/
def zero8 : FVec F (Sh 8 512) .f32 := broadcast (Sh 8 512) (Scalar.ofBits .f32 0x00000000#32)

/-- One trip of a loop over the bins: the 64 bins from `64 k`. -/
def trip {D n : ℕ} (tree : FVec F (Sh D 512) .bf16 → FVec F (Sh 16 512) .bf16) (idx : FVec F (Sh D 512) .bf16) (k : Fin n)
    (acc : FVec F (Sh 8 512) .f32) : FVec F (Sh 8 512) .f32 :=
  bins tree idx (Scalar.sitofp .f32 (Scalar.muli (Scf.iv 0#32 1#32 k) 64#32)) word acc

/-- The accumulator of 256 bins (four trips), -/
def hist256 (idx : FVec F (Sh 256 512) .bf16) : FVec F (Sh 8 512) .f32 := Scf.fold (n := 4) (trip tree256 idx) zero8
/-- of 128 bins (two trips), -/
def hist128 (idx : FVec F (Sh 128 512) .bf16) : FVec F (Sh 8 512) .f32 := Scf.fold (n := 2) (trip tree128 idx) zero8
/-- of 32 bins. -/
def hist32 (idx : FVec F (Sh 32 512) .bf16) : FVec F (Sh 8 512) .f32 :=
  bins tree32 idx (Scalar.sitofp .f32 (Scalar.muli 0#32 32#32)) (word.take 4) zero8

/-- The accumulator's rows added, as a row of the statistics array. -/
def statRow (t : FVec F (Sh 8 512) .f32) : FVec F Row3 .f32 :=
  shapeCast Row3
    (shapeCast Row (shapeCast (Sh 1 512) (multiReduction .add [0] Row t 0x00000000#32 (by decide) (.inl rfl) rfl) (by decide))
      (by decide))
    (by decide)

/-! ## The last layer -/

/-- The logarithm of the softmax of every column. -/
def logSoftmax (h : Rows 10) (v : FVec F (Sh 10 512) .f32) : FVec F (Sh 10 512) .f32 :=
  subf (subf v (broadcastTo (Sh 10 512) (colMax h v) h.bc))
    (broadcastTo (Sh 10 512)
      (log (shapeCast (Sh 1 512)
        (multiReduction .add [0] Row (exp (subf v (broadcastTo (Sh 10 512) (colMax h v) h.bc))) 0x00000000#32 h.red (.inl rfl) rfl)
        h.cast))
      h.bc)

/-- The negative entries of a matrix replaced by zero. -/
def relu {s : Shape} (v : FVec F s .f32) : FVec F s .f32 := maximumf v (broadcast s (Scalar.ofBits .f32 0x00000000#32))

/-- The shape facts of a block of 256 rows. -/
theorem rows256 : Rows 256 := ⟨by decide, by decide, by decide⟩
/-- The shape facts of a block of 128 rows. -/
theorem rows128 : Rows 128 := ⟨by decide, by decide, by decide⟩
/-- The shape facts of a block of 32 rows. -/
theorem rows32 : Rows 32 := ⟨by decide, by decide, by decide⟩
/-- The shape facts of a block of 10 rows. -/
theorem rows10 : Rows 10 := ⟨by decide, by decide, by decide⟩

end Cert.Proof.Net
-- ==== Proof.Body.lean ====
/-
  The network kernel's body as its memory operations over the functions of `Net`: the four loops over the bins are folds, and the
  printed body is this program.
-/
module

public import proofs.«01_k».proof.Proof.Net
public import proofs.«01_k».proof.Proof.Gen.KernelIdeal.Skeleton

@[expose] public section

set_option maxRecDepth 65536

noncomputable section

namespace Cert.Proof.Ideal

open Idealize.ShloMosaic Idealize.SL.Sem Cert.Proof.Net Cert.KernelIdeal Cert.KernelIdeal.Gen

variable {F : FTy → Type} [FloatOps F]

/-- The first layer's activations: the samples are rows of `x`, columns of the result. -/
def act1 (x : Vec F S512x784 .f32) (W : Vec F S256x784 .f32) (b : Vec F S256x512 .f32) : FVec F S256x512 .f32 :=
  leaky (affine dot_S256x784_S512x784_S256x512_1_1_0_0_n_n shapeCasts_S256x512_S256x512 W x b)
/-- The second layer's activations, -/
def act2 (a : FVec F S256x512 .f32) (W : Vec F S128x256 .f32) (b : Vec F S128x512 .f32) : FVec F S128x512 .f32 :=
  leaky (affine dot_S128x256_S256x512_S128x512_1_0_0_1_n_n shapeCasts_S128x512_S128x512 W a b)
/-- the third layer's and the fourth's, -/
def act3 (a : FVec F S128x512 .f32) (W : Vec F S128x128 .f32) (b : Vec F S128x512 .f32) : FVec F S128x512 .f32 :=
  leaky (affine dot_S128x128_S128x512_S128x512_1_0_0_1_n_n shapeCasts_S128x512_S128x512 W a b)
/-- the fifth layer's. -/
def act5 (a : FVec F S128x512 .f32) (W : Vec F S32x128 .f32) (b : Vec F S32x512 .f32) : FVec F S32x512 .f32 :=
  leaky (affine dot_S32x128_S128x512_S32x512_1_0_0_1_n_n shapeCasts_S32x512_S32x512 W a b)
/-- The last layer, rectified, as logarithms of its softmax. -/
def logits (a : FVec F S32x512 .f32) (W : Vec F S10x32 .f32) (b : Vec F S10x512 .f32) : FVec F S10x512 .f32 :=
  logSoftmax rows10 (relu (affine dot_S10x32_S32x512_S10x512_1_0_0_1_n_n shapeCasts_S10x512_S10x512 W a b))

/-- The bins of the first layer's activations (256 of them), -/
def idx1 (a : FVec F S256x512 .f32) : FVec F S256x512 .bf16 := index rows256 0x43800000#32 0x437F0000#32 a
/-- of the next three layers' (128), -/
def idx2 (a : FVec F S128x512 .f32) : FVec F S128x512 .bf16 := index rows128 0x43000000#32 0x42FE0000#32 a
/-- of the fifth's (32). -/
def idx5 (a : FVec F S32x512 .f32) : FVec F S32x512 .bf16 := index rows32 0x42000000#32 0x41F80000#32 a

/-- The body's memory operations. -/
def netBody (i : grid0.Coords)
    (arg1 : Memref sig .tc .vmem S512x784 .f32) (harg1 : arg1.IsWhole)
    (arg2 : Memref sig .tc .vmem S256x784 .f32) (harg2 : arg2.IsWhole)
    (arg3 : Memref sig .tc .vmem S128x256 .f32) (harg3 : arg3.IsWhole)
    (arg4 : Memref sig .tc .vmem S128x128 .f32) (harg4 : arg4.IsWhole)
    (arg5 : Memref sig .tc .vmem S128x128 .f32) (harg5 : arg5.IsWhole)
    (arg6 : Memref sig .tc .vmem S32x128 .f32) (harg6 : arg6.IsWhole)
    (arg7 : Memref sig .tc .vmem S10x32 .f32) (harg7 : arg7.IsWhole)
    (arg8 : Memref sig .tc .vmem S256x512 .f32) (harg8 : arg8.IsWhole)
    (arg9 : Memref sig .tc .vmem S128x512 .f32) (harg9 : arg9.IsWhole)
    (arg10 : Memref sig .tc .vmem S128x512 .f32) (harg10 : arg10.IsWhole)
    (arg11 : Memref sig .tc .vmem S128x512 .f32) (harg11 : arg11.IsWhole)
    (arg12 : Memref sig .tc .vmem S32x512 .f32) (harg12 : arg12.IsWhole)
    (arg13 : Memref sig .tc .vmem S10x512 .f32) (harg13 : arg13.IsWhole)
    (arg14 : Memref sig .tc .vmem S10x512 .f32) (harg14 : arg14.IsWhole)
    (arg15 : Memref sig .tc .vmem S1x8x512 .f32) (harg15 : arg15.IsWhole) :
    Prog (TpuEff nD τ sig (Elt F) Λ₀ .tc) PUnit := do
  let x : Vec F S512x784 .f32 ← Prog.lift (.load arg1 (Rect.unit (s := S512x784) ![0, 0] S512x784.size inb_S512x784_S512x784_0_0).toLoadRect (View.loadsAt_vmem h_S512x784))
  let W1 : Vec F S256x784 .f32 ← Prog.lift (.load arg2 (Rect.unit (s := S256x784) ![0, 0] S256x784.size inb_S256x784_S256x784_0_0).toLoadRect (View.loadsAt_vmem h_S256x784))
  let b1 : Vec F S256x512 .f32 ← Prog.lift (.load arg8 (Rect.unit (s := S256x512) ![0, 0] S256x512.size inb_S256x512_S256x512_0_0).toLoadRect (View.loadsAt_vmem h_S256x512))
  let _r0 : Vec F S1x1x512 .f32 ← Prog.lift (.load arg15 (Rect.unit (s := S1x8x512) ![0, 0, 0] S1x1x512.size inb_S1x8x512_S1x1x512_0_0_0).toLoadRect (View.loadsAt_vmem h_S1x1x512))
  Prog.lift (.store arg15 (Rect.unit (s := S1x8x512) ![0, 0, 0] S1x1x512.size inb_S1x8x512_S1x1x512_0_0_0) (statRow (hist256 (idx1 (act1 x W1 b1)))) Finset.univ (View.stores_vmem_bits_univ h_S1x1x512 rfl) (.inl rfl))
  let W2 : Vec F S128x256 .f32 ← Prog.lift (.load arg3 (Rect.unit (s := S128x256) ![0, 0] S128x256.size inb_S128x256_S128x256_0_0).toLoadRect (View.loadsAt_vmem h_S128x256))
  let b2 : Vec F S128x512 .f32 ← Prog.lift (.load arg9 (Rect.unit (s := S128x512) ![0, 0] S128x512.size inb_S128x512_S128x512_0_0).toLoadRect (View.loadsAt_vmem h_S128x512))
  let _r1 : Vec F S1x1x512 .f32 ← Prog.lift (.load arg15 (Rect.unit (s := S1x8x512) ![0, 1, 0] S1x1x512.size inb_S1x8x512_S1x1x512_0_1_0).toLoadRect (View.loadsAt_vmem h_S1x1x512))
  Prog.lift (.store arg15 (Rect.unit (s := S1x8x512) ![0, 1, 0] S1x1x512.size inb_S1x8x512_S1x1x512_0_1_0) (statRow (hist128 (idx2 (act2 (act1 x W1 b1) W2 b2)))) Finset.univ (View.stores_vmem_bits_univ h_S1x1x512 rfl) (.inl rfl))
  let W3 : Vec F S128x128 .f32 ← Prog.lift (.load arg4 (Rect.unit (s := S128x128) ![0, 0] S128x128.size inb_S128x128_S128x128_0_0).toLoadRect (View.loadsAt_vmem h_S128x128))
  let b3 : Vec F S128x512 .f32 ← Prog.lift (.load arg10 (Rect.unit (s := S128x512) ![0, 0] S128x512.size inb_S128x512_S128x512_0_0).toLoadRect (View.loadsAt_vmem h_S128x512))
  let _r2 : Vec F S1x1x512 .f32 ← Prog.lift (.load arg15 (Rect.unit (s := S1x8x512) ![0, 2, 0] S1x1x512.size inb_S1x8x512_S1x1x512_0_2_0).toLoadRect (View.loadsAt_vmem h_S1x1x512))
  Prog.lift (.store arg15 (Rect.unit (s := S1x8x512) ![0, 2, 0] S1x1x512.size inb_S1x8x512_S1x1x512_0_2_0) (statRow (hist128 (idx2 (act3 (act2 (act1 x W1 b1) W2 b2) W3 b3)))) Finset.univ (View.stores_vmem_bits_univ h_S1x1x512 rfl) (.inl rfl))
  let W4 : Vec F S128x128 .f32 ← Prog.lift (.load arg5 (Rect.unit (s := S128x128) ![0, 0] S128x128.size inb_S128x128_S128x128_0_0).toLoadRect (View.loadsAt_vmem h_S128x128))
  let b4 : Vec F S128x512 .f32 ← Prog.lift (.load arg11 (Rect.unit (s := S128x512) ![0, 0] S128x512.size inb_S128x512_S128x512_0_0).toLoadRect (View.loadsAt_vmem h_S128x512))
  let _r3 : Vec F S1x1x512 .f32 ← Prog.lift (.load arg15 (Rect.unit (s := S1x8x512) ![0, 3, 0] S1x1x512.size inb_S1x8x512_S1x1x512_0_3_0).toLoadRect (View.loadsAt_vmem h_S1x1x512))
  Prog.lift (.store arg15 (Rect.unit (s := S1x8x512) ![0, 3, 0] S1x1x512.size inb_S1x8x512_S1x1x512_0_3_0) (statRow (hist128 (idx2 (act3 (act3 (act2 (act1 x W1 b1) W2 b2) W3 b3) W4 b4)))) Finset.univ (View.stores_vmem_bits_univ h_S1x1x512 rfl) (.inl rfl))
  let W5 : Vec F S32x128 .f32 ← Prog.lift (.load arg6 (Rect.unit (s := S32x128) ![0, 0] S32x128.size inb_S32x128_S32x128_0_0).toLoadRect (View.loadsAt_vmem h_S32x128))
  let b5 : Vec F S32x512 .f32 ← Prog.lift (.load arg12 (Rect.unit (s := S32x512) ![0, 0] S32x512.size inb_S32x512_S32x512_0_0).toLoadRect (View.loadsAt_vmem h_S32x512))
  let _r4 : Vec F S1x1x512 .f32 ← Prog.lift (.load arg15 (Rect.unit (s := S1x8x512) ![0, 4, 0] S1x1x512.size inb_S1x8x512_S1x1x512_0_4_0).toLoadRect (View.loadsAt_vmem h_S1x1x512))
  Prog.lift (.store arg15 (Rect.unit (s := S1x8x512) ![0, 4, 0] S1x1x512.size inb_S1x8x512_S1x1x512_0_4_0) (statRow (hist32 (idx5 (act5 (act3 (act3 (act2 (act1 x W1 b1) W2 b2) W3 b3) W4 b4) W5 b5)))) Finset.univ (View.stores_vmem_bits_univ h_S1x1x512 rfl) (.inl rfl))
  let W6 : Vec F S10x32 .f32 ← Prog.lift (.load arg7 (Rect.unit (s := S10x32) ![0, 0] S10x32.size inb_S10x32_S10x32_0_0).toLoadRect (View.loadsAt_vmem h_S10x32))
  let b6 : Vec F S10x512 .f32 ← Prog.lift (.load arg13 (Rect.unit (s := S10x512) ![0, 0] S10x512.size inb_S10x512_S10x512_0_0).toLoadRect (View.loadsAt_vmem h_S10x512))
  let _o : Vec F S10x512 .f32 ← Prog.lift (.load arg14 (Rect.unit (s := S10x512) ![0, 0] S10x512.size inb_S10x512_S10x512_0_0).toLoadRect (View.loadsAt_vmem h_S10x512))
  Prog.lift (.store arg14 (Rect.unit (s := S10x512) ![0, 0] S10x512.size inb_S10x512_S10x512_0_0) (logits (act5 (act3 (act3 (act2 (act1 x W1 b1) W2 b2) W3 b3) W4 b4) W5 b5) W6 b6) Finset.univ (View.stores_vmem_bits_univ h_S10x512 rfl) (.inl rfl))
  pure ⟨⟩

variable (i : grid0.Coords)
    (arg1 : Memref sig .tc .vmem S512x784 .f32) (harg1 : arg1.IsWhole)
    (arg2 : Memref sig .tc .vmem S256x784 .f32) (harg2 : arg2.IsWhole)
    (arg3 : Memref sig .tc .vmem S128x256 .f32) (harg3 : arg3.IsWhole)
    (arg4 : Memref sig .tc .vmem S128x128 .f32) (harg4 : arg4.IsWhole)
    (arg5 : Memref sig .tc .vmem S128x128 .f32) (harg5 : arg5.IsWhole)
    (arg6 : Memref sig .tc .vmem S32x128 .f32) (harg6 : arg6.IsWhole)
    (arg7 : Memref sig .tc .vmem S10x32 .f32) (harg7 : arg7.IsWhole)
    (arg8 : Memref sig .tc .vmem S256x512 .f32) (harg8 : arg8.IsWhole)
    (arg9 : Memref sig .tc .vmem S128x512 .f32) (harg9 : arg9.IsWhole)
    (arg10 : Memref sig .tc .vmem S128x512 .f32) (harg10 : arg10.IsWhole)
    (arg11 : Memref sig .tc .vmem S128x512 .f32) (harg11 : arg11.IsWhole)
    (arg12 : Memref sig .tc .vmem S32x512 .f32) (harg12 : arg12.IsWhole)
    (arg13 : Memref sig .tc .vmem S10x512 .f32) (harg13 : arg13.IsWhole)
    (arg14 : Memref sig .tc .vmem S10x512 .f32) (harg14 : arg14.IsWhole)
    (arg15 : Memref sig .tc .vmem S1x8x512 .f32) (harg15 : arg15.IsWhole)

/-- The first loop counts the 256 bins of the first layer. -/
theorem loop1 (x : Vec F S512x784 .f32) (W : Vec F S256x784 .f32) (b : Vec F S256x512 .f32) :
    Scf.Loop.for k0_t1_loop k0_t1_ok (k0_pay373 (F := F))
        (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 x W b (Scalar.ofBits .bf16 0x3F80#16) (Scalar.ofBits .bf16 0x0000#16))
      = .ret (hist256 (idx1 (act1 x W b))) :=
  Scf.for_pure _ _ _ _ _ _ (trip tree256 (idx1 (act1 x W b))) fun _ _ => rfl

/-- The second loop counts the 128 bins of the second layer. -/
theorem loop2 (a : FVec F S128x512 .f32) (v : FVec F S128x512 .bf16) (w : FVec F S8x512 .f32) :
    Scf.Loop.for k0_t2_loop k0_t2_ok (k0_pay378 (F := F))
        (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 a v w (Scalar.ofBits .bf16 0x3F80#16) (Scalar.ofBits .bf16 0x0000#16) 0#32)
      = .ret (hist128 v) :=
  Scf.for_pure _ _ _ _ _ _ (trip tree128 v) fun _ _ => rfl

/-- The third loop counts the 128 bins of the third layer. -/
theorem loop3 (a v : FVec F S128x512 .f32) :
    Scf.Loop.for k0_t3_loop k0_t3_ok (k0_pay384 (F := F))
        (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 a v (Scalar.ofBits .bf16 0x3F80#16) (Scalar.ofBits .bf16 0x0000#16))
      = .ret (hist128 (k0_pay383 v)) :=
  Scf.for_pure _ _ _ _ _ _ (trip tree128 (k0_pay383 v)) fun _ _ => rfl

/-- The fourth loop counts the 128 bins of the fourth layer. -/
theorem loop4 (a v : FVec F S128x512 .f32) :
    Scf.Loop.for k0_t4_loop k0_t4_ok (k0_pay390 (F := F))
        (k0_t4_body i arg1 harg1 arg2 harg2 arg3 harg3 arg4 harg4 arg5 harg5 arg6 harg6 arg7 harg7 arg8 harg8 arg9 harg9 arg10 harg10 arg11 harg11 arg12 harg12 arg13 harg13 arg14 harg14 arg15 harg15 a v (Scalar.ofBits .bf16 0x3F80#16) (Scalar.ofBits .bf16 0x0000#16))
      = .ret (hist128 (k0_pay389 v)) :=
  Scf.for_pure _ _ _ _ _ _ (trip tree128 (k0_pay389 v)) fun _ _ => rfl

set_option maxHeartbeats 0 in
/-- The printed body is `netBody`. -/
theorem body_eq : cc0__net_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = netBody i arg1 harg1 arg2 harg2 arg3 harg3 arg4 harg4 arg5 harg5 arg6 harg6 arg7 harg7 arg8 harg8 arg9 harg9 arg10 harg10 arg11 harg11 arg12 harg12 arg13 harg13 arg14 harg14 arg15 harg15 := by
  rw [cc0__net_kernel_eq_skeleton]
  unfold cc0__net_kernel_skel
  rw [k0_part97_eq_skeleton, k0_part98_eq_skeleton, k0_part99_eq_skeleton, k0_part100_eq_skeleton, k0_part101_eq_skeleton]
  unfold k0_part97_skel k0_part98_skel k0_part99_skel k0_part100_skel k0_part101_skel
  simp only [bind_assoc, pure_bind, loop1, loop2, loop3, loop4]
  rfl

end Cert.Proof.Ideal
-- ==== Proof.Run.lean ====
/-
  The kernel's body of `KernelIdeal` on whole staging blocks: what it leaves in the two result blocks, with the proof that it runs there. The block of
  log-probabilities is written whole. Of the block of partial sums the body writes the first five rows; what it leaves there is a
  function of what the block held before.
-/
module

public import proofs.«01_k».proof.Proof.Gen.KernelIdeal.Frame
public import proofs.«01_k».proof.Proof.Body
public import Idealize.ShloMosaic.Lib.Tactic
public import Idealize.ShloMosaic.Lib.ValueIdxCore
public import Idealize.ShloMosaic.Lib.VecWindow
public import Idealize.ShloMosaic.Lib.WritesUnit

@[expose] public section

set_option maxRecDepth 16384

noncomputable section

namespace Cert.Proof.Ideal

open Cert.Proof.Net Cert.KernelIdeal Cert.KernelIdeal.Gen

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

/-- The block of log-probabilities, of the thirteen input blocks. -/
def probs (x0 : Vec F S512x784 .f32) (x1 : Vec F S256x784 .f32) (x2 : Vec F S128x256 .f32) (x3 : Vec F S128x128 .f32) (x4 : Vec F S128x128 .f32) (x5 : Vec F S32x128 .f32) (x6 : Vec F S10x32 .f32) (x7 : Vec F S256x512 .f32) (x8 : Vec F S128x512 .f32) (x9 : Vec F S128x512 .f32) (x10 : Vec F S128x512 .f32) (x11 : Vec F S32x512 .f32) (x12 : Vec F S10x512 .f32) : Vec F S10x512 .f32 :=
  logits (act5 (act3 (act3 (act2 (act1 x0 x1 x7) x2 x8) x3 x9) x4 x10) x5 x11) x6 x12

/-- The five rows of statistics, of the thirteen input blocks. -/
def stats (x0 : Vec F S512x784 .f32) (x1 : Vec F S256x784 .f32) (x2 : Vec F S128x256 .f32) (x3 : Vec F S128x128 .f32) (x4 : Vec F S128x128 .f32) (x5 : Vec F S32x128 .f32) (x6 : Vec F S10x32 .f32) (x7 : Vec F S256x512 .f32) (x8 : Vec F S128x512 .f32) (x9 : Vec F S128x512 .f32) (x10 : Vec F S128x512 .f32) (x11 : Vec F S32x512 .f32) (x12 : Vec F S10x512 .f32) : Fin 5 → FVec F Row3 .f32 :=
  ![statRow (hist256 (idx1 (act1 x0 x1 x7))),
    statRow (hist128 (idx2 (act2 (act1 x0 x1 x7) x2 x8))),
    statRow (hist128 (idx2 (act3 (act2 (act1 x0 x1 x7) x2 x8) x3 x9))),
    statRow (hist128 (idx2 (act3 (act3 (act2 (act1 x0 x1 x7) x2 x8) x3 x9) x4 x10))),
    statRow (hist32 (idx5 (act5 (act3 (act3 (act2 (act1 x0 x1 x7) x2 x8) x3 x9) x4 x10) x5 x11)))]

/-- A block of statistics carries them: row `r` of it is the `r`-th. -/
def Stats (x0 : Vec F S512x784 .f32) (x1 : Vec F S256x784 .f32) (x2 : Vec F S128x256 .f32) (x3 : Vec F S128x128 .f32) (x4 : Vec F S128x128 .f32) (x5 : Vec F S32x128 .f32) (x6 : Vec F S10x32 .f32) (x7 : Vec F S256x512 .f32) (x8 : Vec F S128x512 .f32) (x9 : Vec F S128x512 .f32) (x10 : Vec F S128x512 .f32) (x11 : Vec F S32x512 .f32) (x12 : Vec F S10x512 .f32) (X : Vec F S1x8x512 .f32) : Prop :=
  ∀ (r : Fin 5) (l : Fin 512), X (ix3 (0 : Fin 1) (r.castLE (by decide) : Fin 8) l) = stats x0 x1 x2 x3 x4 x5 x6 x7 x8 x9 x10 x11 x12 r (ix3 (0 : Fin 1) (0 : Fin 1) l)

/-- A load of a whole block at its own sizes reads the block. -/
theorem load_whole {s : Shape} {M : Memref sig .tc .vmem s .f32} (h : M.IsWhole) {off : Fin s.rank → ℕ}
    (inb : ∀ a, off a + s.size a ≤ s.size a) (X : Vec F s .f32) :
    M.view.readAt (Elt F) (Rect.unit off s.size inb).toLoadRect (h.unread X) = X := by
  rw [View.readAt_full, h.read_unread]

/-- Of five rows stored one after the other, each reads back. -/
theorem five_rows (v : View sig .tc .vmem S1x8x512 .f32) (f : v.ty.Contents (Elt F)) (w : Fin 5 → FVec F Row3 .f32) (r : Fin 5)
    (l : Fin 512) :
    v.read (Elt F) (v.writes (Elt F) f
        [⟨Rect.unit ![0, 4, 0] S1x1x512.size inb_S1x8x512_S1x1x512_0_4_0, w 4⟩,
         ⟨Rect.unit ![0, 3, 0] S1x1x512.size inb_S1x8x512_S1x1x512_0_3_0, w 3⟩,
         ⟨Rect.unit ![0, 2, 0] S1x1x512.size inb_S1x8x512_S1x1x512_0_2_0, w 2⟩,
         ⟨Rect.unit ![0, 1, 0] S1x1x512.size inb_S1x8x512_S1x1x512_0_1_0, w 1⟩,
         ⟨Rect.unit ![0, 0, 0] S1x1x512.size inb_S1x8x512_S1x1x512_0_0_0, w 0⟩])
      (ix3 (0 : Fin 1) (r.castLE (by decide) : Fin 8) l) = w r (ix3 (0 : Fin 1) (0 : Fin 1) l) := by
  have hit : ∀ (k : Fin 5) (inb) (L : List (View.Piece (Elt F) S1x8x512 .f32)),
      v.read (Elt F) (v.writes (Elt F) f (⟨Rect.unit ![0, (k : ℕ), 0] S1x1x512.size inb, w k⟩ :: L))
        (ix3 (0 : Fin 1) (k.castLE (by decide) : Fin 8) l) = w k (ix3 (0 : Fin 1) (0 : Fin 1) l) := fun k inb L =>
    View.read_writes_cons_unit_of_mem v f inb (w k) L _ (ix3 (0 : Fin 1) (0 : Fin 1) l) rfl fun a => by
      fin_cases a
      · rfl
      · rfl
      · exact (Nat.zero_add _).symm
  have miss : ∀ (k j : Fin 5) (inb) (L : List (View.Piece (Elt F) S1x8x512 .f32)), k ≠ j →
      v.read (Elt F) (v.writes (Elt F) f (⟨Rect.unit ![0, (j : ℕ), 0] S1x1x512.size inb, w j⟩ :: L))
        (ix3 (0 : Fin 1) (k.castLE (by decide) : Fin 8) l)
        = v.read (Elt F) (v.writes (Elt F) f L) (ix3 (0 : Fin 1) (k.castLE (by decide) : Fin 8) l) := fun k j inb L hkj =>
    View.read_writes_cons_unit_of_not_mem v f inb (w j) L _ rfl (1 : Fin 3) (by
      have : (k : ℕ) ≠ j := fun h => hkj (Fin.ext h)
      show (k : ℕ) < (j : ℕ) ∨ (j : ℕ) + 1 ≤ (k : ℕ)
      omega)
  fin_cases r
  · exact (miss 0 4 _ _ (by decide)).trans ((miss 0 3 _ _ (by decide)).trans ((miss 0 2 _ _ (by decide)).trans
      ((miss 0 1 _ _ (by decide)).trans (hit 0 _ _))))
  · exact (miss 1 4 _ _ (by decide)).trans ((miss 1 3 _ _ (by decide)).trans ((miss 1 2 _ _ (by decide)).trans (hit 1 _ _)))
  · exact (miss 2 4 _ _ (by decide)).trans ((miss 2 3 _ _ (by decide)).trans (hit 2 _ _))
  · exact (miss 3 4 _ _ (by decide)).trans (hit 3 _ _)
  · exact hit 4 _ _

set_option maxHeartbeats 0 in
/-- The body, run on whole blocks, ends holding the inputs as they were, the block of log-probabilities at `probs` of them, and a block
    of statistics whose first five rows are theirs. -/
theorem bodyRun (c : Dev nD) (i : grid0.Coords)
(M0 : Memref sig .tc .vmem S512x784 .f32) (h0 : M0.IsWhole) (M1 : Memref sig .tc .vmem S256x784 .f32) (h1 : M1.IsWhole) (M2 : Memref sig .tc .vmem S128x256 .f32) (h2 : M2.IsWhole) (M3 : Memref sig .tc .vmem S128x128 .f32) (h3 : M3.IsWhole) (M4 : Memref sig .tc .vmem S128x128 .f32) (h4 : M4.IsWhole) (M5 : Memref sig .tc .vmem S32x128 .f32) (h5 : M5.IsWhole) (M6 : Memref sig .tc .vmem S10x32 .f32) (h6 : M6.IsWhole) (M7 : Memref sig .tc .vmem S256x512 .f32) (h7 : M7.IsWhole) (M8 : Memref sig .tc .vmem S128x512 .f32) (h8 : M8.IsWhole) (M9 : Memref sig .tc .vmem S128x512 .f32) (h9 : M9.IsWhole) (M10 : Memref sig .tc .vmem S128x512 .f32) (h10 : M10.IsWhole) (M11 : Memref sig .tc .vmem S32x512 .f32) (h11 : M11.IsWhole) (M12 : Memref sig .tc .vmem S10x512 .f32) (h12 : M12.IsWhole) (M13 : Memref sig .tc .vmem S10x512 .f32) (h13 : M13.IsWhole) (M14 : Memref sig .tc .vmem S1x8x512 .f32) (h14 : M14.IsWhole)
    (x0 : Vec F S512x784 .f32) (x1 : Vec F S256x784 .f32) (x2 : Vec F S128x256 .f32) (x3 : Vec F S128x128 .f32) (x4 : Vec F S128x128 .f32) (x5 : Vec F S32x128 .f32) (x6 : Vec F S10x32 .f32) (x7 : Vec F S256x512 .f32) (x8 : Vec F S128x512 .f32) (x9 : Vec F S128x512 .f32) (x10 : Vec F S128x512 .f32) (x11 : Vec F S32x512 .f32) (x12 : Vec F S10x512 .f32) (d : Vec F S1x8x512 .f32) (E : Set ℕ) (K : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11 ∗ owns (c : Thread nD τ) M12 fullShare x12 ∗ (∃ d, owns (c : Thread nD τ) M13 fullShare d) ∗ owns (c : Thread nD τ) M14 fullShare d
        ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11 ∗ owns (c : Thread nD τ) M12 fullShare x12 ∗ owns (c : Thread nD τ) M13 fullShare (probs x0 x1 x2 x3 x4 x5 x6 x7 x8 x9 x10 x11 x12) ∗ (∃ X : Vec F S1x8x512 .f32, ⌜Stats x0 x1 x2 x3 x4 x5 x6 x7 x8 x9 x10 x11 x12 X⌝ ∗ owns (c : Thread nD τ) M14 fullShare X)) -∗ K ⟨⟩))
      ⊢ wp frame (wpE (defs₀ (F := F)) 𝒱₀ c none) E
          (cc0__net_kernel i M0 h0 M1 h1 M2 h2 M3 h3 M4 h4 M5 h5 M6 h6 M7 h7 M8 h8 M9 h9 M10 h10 M11 h11 M12 h12 M13 h13 M14 h14) K := by
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, Hk⟩
    obtain rfl := h0.eq_unread hf0
    obtain rfl := h1.eq_unread hf1
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h14.eq_unread hf14
    rw [body_eq]
    unfold netBody
    sl_exec!
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; swap; · iexact H13
      ipureintro; unfold bodyRun.sl.H13_1
      refine (View.read_writes_full _ _ _ _ _).trans ?_
      rw [load_whole h0, load_whole h1, load_whole h2, load_whole h3, load_whole h4, load_whole h5, load_whole h6, load_whole h7, load_whole h8, load_whole h9, load_whole h10, load_whole h11, load_whole h12]
      rfl
    iexists _; isplitr; swap
    · iexists _; isplitr; swap; · iexact H14
      ipureintro; rfl
    · ipureintro; rw [load_whole h0, load_whole h1, load_whole h2, load_whole h3, load_whole h4, load_whole h5, load_whole h7, load_whole h8, load_whole h9, load_whole h10, load_whole h11]
      exact five_rows _ _ (stats x0 x1 x2 x3 x4 x5 x6 x7 x8 x9 x10 x11 x12)

end Cert.Proof.Ideal

end
-- ==== Proof.Launch.lean ====
/-
  A pipeline's run, of relational proof data, whose host lines after the region read arrays that the relation holds to a predicate only:
  the bypassing buffers end at what the lines make of SOME contents that the arrays may hold.
-/
module

public import Idealize.ShloMosaic.Lib.Pipeline.FrameSuffix

@[expose] public section

noncomputable section

namespace Cert.Proof

open Idealize.ShloMosaic Idealize.ShloMosaic.TcCoe Idealize.ShloMosaic.Pipeline Idealize.ShloMosaic.Rounds
open Idealize.SL
open Idealize.SL.BI (sProp bigSep)
open scoped Idealize.SL.BI
open Idealize.SL.BI.BIBase Idealize.SL.BI.Laws Idealize.SL.Sem Idealize.SL.ProofMode
open Idealize.SL.RA

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀) (p : P) (kit : LaunchFacts (nD := nD) (τ := τ) cfgs p) (defs₀ : Defs nD τ sig Val Λ₀) (𝒱₀ : Variants)

/-- On each core: every array holds something that it may hold after the write-backs, and every bypassing buffer holds what the host lines
    `opss` leave there when they start from the entry contents with some such arrays. -/
def TailPost (rdat : (c : Dev nD) → RDat τ Val Unit ℕ (UR sig nD τ) ℕ (cfgs p) c) (V₀ : Dev nD → Valuation τ sig Val)
    (opss : List (List (HloOp τ sig Val))) (r : PUnit × MemSt nD τ sig Val) : Prop :=
  ∀ c : Dev nD, (∀ w, (rdat c).ArrAt w (cfgs p).N (r.2.mem (((cfgs p).spec w).arr.view.loc (c.tc : Thread nD τ))))
    ∧ ∃ A : (w : Fin (cfgs p).W) → Buf Val (((cfgs p).win w).arr.view.loc (c.tc : Thread nD τ)),
      (∀ w, (rdat c).ArrAt w (cfgs p).N (A w))
        ∧ ∀ b ∈ restRefs sig (cfgs p).spec \ ∅, r.2.mem ((c.tc : Thread nD τ).loc b)
            = StableHlo.after opss.flatten (withArrays (cfgs p).spec c (V₀ c) A) (Proc.devRef .tc b)

include kit in
/-- The run of a pipeline with host lines around it ends in `TailPost`, with every semaphore counter at zero. -/
theorem run_tail (rdat : (c : Dev nD) → RDat τ Val Unit ℕ (UR sig nD τ) ℕ (cfgs p) c)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, (rdat c).BodyObligation defs₀ 𝒱₀ () Set.univ)
    (hshare : ∀ c w, (rdat c).share w = fullShare) (howed : ∀ c t, (rdat c).owed t = 0)
    (V₀ : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (rdat c).A w = V₀ c (Proc.devRef .tc (arrRef (cfgs p).spec w)))
    (hΦ : ∀ c t, (rdat c).Φ t = ΦA (cfgs p).spec c) :
    θ_run (Pipeline.defs (fun q => Cfg.toPCfg (Val := Val) (cfgs q)) defs₀) (onTc main) (s₀ m g)
      (fun r => TailPost cfgs p rdat V₀ opss r ∧ r.2.sem = fun _ => 0) := by
  classical
  let pcs : P → PCfg sig Λ₀ Val := fun q => (cfgs q).toPCfg (Val := Val)
  let a : (q : P) → (pcs q).Adm := fun q => (cfgs q).toPCfg_adm
  let kit₀ : PLaunchFacts₀ (nD := nD) (τ := τ) pcs p := kit.toP.to₀
  let rest := restRefsP sig (pcs p).pre (cfgs p).spec
  let V : (c : Dev nD) → (b : Ref sig .tc) → Buf Val ((c.tc : Thread nD τ).loc b) := fun c b => V₀ c (Proc.devRef .tc b)
  have hq : ∀ c w, ((cfgs p).spec w).isOut = false → (rdat c).q w = shareOf (cfgs p).spec w :=
    fun c w hw => (rdat c).q_eq_shareOf_of_share_full kit.win.arr_inj (hshare c) w hw
  -- the arrays after the last write-back, at some contents that they may hold, and back
  have hopen : ∀ c, ((RDat.familyOf pcs a p rdat p c).arraysAt (cfgs p).N : sProp 𝕄)
      ⊢ iprop(∃ A, ⌜∀ w, (rdat c).ArrAt w (cfgs p).N (A w)⌝ ∗ (rdat c).arrays A) := fun c => by
    rw [RDat.familyOf_self]; unfold RDat.arraysAt
    iintro Ha
    ihave Ha1 := (BI.bigSep_exists_pi Finset.univ (fun w G => iprop(⌜(rdat c).ArrAt w (cfgs p).N G⌝
        ∗ ((cfgs p).win w).arr.view.loc (c.tc : Thread nD τ) ↦[((cfgs p).win w).arr.view.set]{(rdat c).share w} G))) $$ Ha
    icases Ha1 with ⟨%A, Ha⟩
    ihave Ha2 := (BI.bigSep_pure_sep Finset.univ (fun w => (rdat c).ArrAt w (cfgs p).N (A w))
        (fun w => ((cfgs p).win w).arr.view.loc (c.tc : Thread nD τ) ↦[((cfgs p).win w).arr.view.set]{(rdat c).share w} A w)) $$ Ha
    icases Ha2 with ⟨%hA1, Ha⟩
    iexists A; isplitr
    · ipureintro; exact fun w => hA1 w (Finset.mem_univ w)
    unfold RDat.arrays
    iexact Ha
  have hclose : ∀ c A, (∀ w, (rdat c).ArrAt w (cfgs p).N (A w)) →
      ((rdat c).arrays A : sProp 𝕄) ⊢ (RDat.familyOf pcs a p rdat p c).arraysAt (cfgs p).N := fun c A hA1 => by
    rw [RDat.familyOf_self]; unfold RDat.arraysAt RDat.arrays
    refine BI.bigSep_mono fun w _ => ?_
    show (((cfgs p).win w).arr.view.loc (c.tc : Thread nD τ) ↦[((cfgs p).win w).arr.view.set]{(rdat c).share w} A w : sProp 𝕄)
      ⊢ iprop(∃ G, ⌜(rdat c).ArrAt w (cfgs p).N G⌝ ∗ ((cfgs p).win w).arr.view.loc (c.tc : Thread nD τ) ↦[((cfgs p).win w).arr.view.set]{(rdat c).share w} G)
    iintro H; iexists (A w); isplitr
    · ipureintro; exact hA1 w
    iexact H
  exact RDat.θ_run_region_pf_tail_quiescent pcs a (RDat.familyOf pcs a p rdat) () (kit₀.cellOf_inj a) p kit₀.win (OwnSemFacts.none (cfgs p).spec)
    kit₀.pre emb₁ defs₀ 𝒱₀ m g main
    (fun _ => chain (opss.map StableHlo.seq)) (fun c => by rw [RDat.familyOf_self]; exact hbody c)
    kit₀.block_pos kit₀.arr_whole kit₀.stage_whole (fun c t => by rw [RDat.familyOf_self]; exact howed c t)
    (G := fun _ => iprop(emp)) (u₀ := initOf (cells (pin pcs a) (kit₀.cellOf_inj a)) (launchToks (pin pcs a) (kit₀.cellOf_inj a)))
    (hu₀ := by
      iintro Hu; imodintro
      isplitl [Hu]
      · iapply (show (ownU _ : sProp 𝕄) ⊢ BI.own (emb₁ (initOf (cells (pin pcs a) (kit₀.cellOf_inj a)) (launchToks (pin pcs a) (kit₀.cellOf_inj a)))) from .rfl)
        iexact Hu
      iapply (show (BI.emp : sProp 𝕄) ⊢ bigSep Finset.univ (fun _ : Dev nD => (BI.emp : sProp 𝕄)) from by rw [BI.bigSep_emp_const])
      iempintro)
    (V := V) (hmain := hmain)
    (hsplit := fun c => by
      rw [RDat.familyOf_self]; exact (rdat c).arrays_split_shared kit₀.sharedIn kit₀.arr_whole (hq c) (V c) _ (hA c))
    (hpf := fun _ (k : Fin 0) => k.elim0)
    (X := fun c => iprop(∃ r, prngReg c r)) (Y := fun c => iprop(∃ r, prngReg c r))
    (Z := fun c => unscopedRestP (Ix := Unit) (Name := ℕ) (U := UR sig nD τ) (Lvl := ℕ) (pcs p).pre (cfgs p).spec c (V c))
    (Z' := fun c => iprop(∃ A, ⌜∀ w, (rdat c).ArrAt w (cfgs p).N (A w)⌝
      ∗ unscopedRestP (Ix := Unit) (Name := ℕ) (U := UR sig nD τ) (Lvl := ℕ) (pcs p).pre (cfgs p).spec c
          fun b => StableHlo.after opss.flatten (withArrays (cfgs p).spec c (V₀ c) A) (Proc.devRef .tc b)))
    (hX := fun c => by
      iintro ⟨HU, -, -, Hp, -⟩; imodintro
      isplitl [Hp]
      · iexists _; iexact Hp
      iexact HU)
    (hin := fun c => by
      rw [RDat.familyOf_self, hΦ]; unfold ΦA
      iintro ⟨Hp, -, Hr⟩
      isplitl [Hr] <;> iassumption)
    (hout := fun c => by
      rw [RDat.familyOf_self, hΦ, ownSems0_none]; unfold ΦA
      iintro ⟨Hr, Hp⟩
      isplitl [Hp]
      · iexact Hp
      isplitr
      · iempintro
      iexact Hr)
    (htail := fun c Q' => by
      iintro ⟨Hk, Hb, Ha, HZ⟩
      ihave Ha1 := (hopen c) $$ Ha
      icases Ha1 with ⟨%A, %hA1, Ha⟩
      have hB : (rdat c).arrays A = arrBufs (cfgs p).spec c (fun b => withArrays (cfgs p).spec c (V₀ c) A (Proc.devRef .tc b)) :=
        ((rdat c).arrBufs_eq_arrays kit₀.sharedIn kit₀.arr_whole (hq c) _ A fun w =>
          (withArrays_arr_shared (cfgs p).spec c (V₀ c) A ((rdat c).ArrAt_sharedIn kit₀.sharedIn (V₀ c) (hA c) (cfgs p).N A hA1) w).symm).symm
      iapply (tail_seqs_bufs_b pcs defs₀ 𝒱₀ (pcs p).pre (cfgs p).spec c (V₀ c) A opss hsub hfresh hkeep Q')
      isplitl [Hk]
      · iintro ⟨Hb, Ha, Hu⟩
        iapply Hk
        isplitl [Hb]
        · iexact Hb
        isplitl [Ha]
        · iapply (hclose c A hA1); iapply (Entails.of_eq hB.symm); iexact Ha
        iexists A; isplitr
        · ipureintro; exact hA1
        iexact Hu
      isplitl [Hb]
      · iexact Hb
      isplitl [Ha]
      · iapply (Entails.of_eq hB); iexact Ha
      iexact HZ)
    (QY := fun c s => ∃ A : (w : Fin (cfgs p).W) → Buf Val (((cfgs p).win w).arr.view.loc (c.tc : Thread nD τ)),
      (∀ w, (rdat c).ArrAt w (cfgs p).N (A w))
        ∧ ∀ b ∈ rest, s.mem ((c.tc : Thread nD τ).loc b)
            = StableHlo.after opss.flatten (withArrays (cfgs p).spec c (V₀ c) A) (Proc.devRef .tc b))
    (hY := fun c s' => by
      iintro ⟨-, HZ, HSI⟩
      icases HZ with ⟨%A, %hA1, HZ⟩
      unfold unscopedRestP
      ihave HZ1 := (pointsTo_read_all rest (fun b => (c.tc : Thread nD τ).loc b)
        (fun b => StableHlo.after opss.flatten (withArrays (cfgs p).spec c (V₀ c) A) (Proc.devRef .tc b)) s') $$ [HZ HSI]
      · isplitl [HZ] <;> iassumption
      icases HZ1 with ⟨%hZ, HSI⟩
      imodintro
      isplitr
      · ipureintro; exact ⟨A, hA1, hZ⟩
      · iexact HSI)
    (hQ := fun s h hz => ⟨fun c => ⟨fun w => by simpa only [RDat.familyOf_self] using (h c).1 w, by
      obtain ⟨A, hA1, hr⟩ := (h c).2.2
      exact ⟨A, hA1, restR_of_restP (pcs p).pre (cfgs p).spec ∅ (a p).1 c _ s (fun (k : Fin 0) => k.elim0) (fun (k : Fin 0) => k.elim0)
        fun b hb => hr b (Finset.mem_sdiff.mp hb).1⟩⟩, hz⟩)

end Cert.Proof

end
-- ==== Proof.Points.lean ====
/-
  The network kernel's pipeline: its proof data — the inputs at their blocks, the log-probabilities at `probs` of them, the statistics
  held to `Stats` —, the body's obligation at every grid point, and the run of @main.
-/
module

public import proofs.«01_k».proof.Proof.Run
public import proofs.«01_k».proof.Proof.Launch
public import Idealize.ShloMosaic.Lib.Pipeline.DatRel
public import Idealize.ShloMosaic.Lib.Pipeline.ArrRel

@[expose] public section

set_option maxRecDepth 16384

noncomputable section

namespace Cert.Proof.Ideal

open Cert.Proof.Net Cert.KernelIdeal Cert.KernelIdeal.Gen

open Idealize.ShloMosaic Idealize.ShloMosaic.ValueIdx Idealize.ShloMosaic.Pipeline
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The log-probabilities of a grid point's samples, of the inputs' blocks there. -/
def probsAt (c : Dev nD) (t : Fin cfg0.N) : Vec F S10x512 .f32 := probs (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- A block of statistics carries the five rows of a grid point's samples. -/
def StatsAt (c : Dev nD) (t : Fin cfg0.N) (X : Vec F S1x8x512 .f32) : Prop := Stats (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) X

/-- The arrays as the region finds them; after the body each input's block in place and the log-probabilities at `probsAt`; nothing owed;
    full shares. The statistics window is held to `StatsAt`, so what is named of it here is read by nothing. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => probsAt m c t
    | ⟨14, _⟩ => fun _ => Classical.arbitrary _
  Φ _ := Pipeline.ΦA spec0 c
  q _ := fullShare
  owed _ := 0

/-- The statistics window alone is held to a predicate. -/
def isStats : Fin cfg0.W → Bool
  | ⟨14, _⟩ => true
  | _ => false

/-- What a window held to a predicate must meet. -/
def holds (c : Dev nD) : (w : Fin cfg0.W) → Fin cfg0.N → ((cfg0.win w).block.Idx → Elt F (cfg0.win w).elt) → Prop
  | ⟨14, _⟩, t, X => StatsAt m c t X
  | _, _, _ => True

/-- The proof data with the statistics window held to `StatsAt`. -/
def rdats (c : Dev nD) : RDat τ (Elt F) Unit ℕ (UR sig nD τ) ℕ cfg0 c := (dats m 0 c).toRRel isStats (holds m c)

/-- The array a window starts from is the one as launched. -/
theorem A_eq (c : Dev nD) (w : Fin cfg0.W) : (dats m 0 c).A w = V m c (Pipeline.arrRef spec0 w) := rfl
/-- Input 0 holds the same block after a grid point. -/
theorem after0_0 (c : Dev nD) (t : Fin cfg0.N) : (dats m 0 c).after 0 t = iblk m c 0 t := by dsimp only [dats]
/-- Input 1 holds the same block after a grid point. -/
theorem after0_1 (c : Dev nD) (t : Fin cfg0.N) : (dats m 0 c).after 1 t = iblk m c 1 t := by dsimp only [dats]
/-- Input 2 holds the same block after a grid point. -/
theorem after0_2 (c : Dev nD) (t : Fin cfg0.N) : (dats m 0 c).after 2 t = iblk m c 2 t := by dsimp only [dats]
/-- Input 3 holds the same block after a grid point. -/
theorem after0_3 (c : Dev nD) (t : Fin cfg0.N) : (dats m 0 c).after 3 t = iblk m c 3 t := by dsimp only [dats]
/-- Input 4 holds the same block after a grid point. -/
theorem after0_4 (c : Dev nD) (t : Fin cfg0.N) : (dats m 0 c).after 4 t = iblk m c 4 t := by dsimp only [dats]
/-- Input 5 holds the same block after a grid point. -/
theorem after0_5 (c : Dev nD) (t : Fin cfg0.N) : (dats m 0 c).after 5 t = iblk m c 5 t := by dsimp only [dats]
/-- Input 6 holds the same block after a grid point. -/
theorem after0_6 (c : Dev nD) (t : Fin cfg0.N) : (dats m 0 c).after 6 t = iblk m c 6 t := by dsimp only [dats]
/-- Input 7 holds the same block after a grid point. -/
theorem after0_7 (c : Dev nD) (t : Fin cfg0.N) : (dats m 0 c).after 7 t = iblk m c 7 t := by dsimp only [dats]
/-- Input 8 holds the same block after a grid point. -/
theorem after0_8 (c : Dev nD) (t : Fin cfg0.N) : (dats m 0 c).after 8 t = iblk m c 8 t := by dsimp only [dats]
/-- Input 9 holds the same block after a grid point. -/
theorem after0_9 (c : Dev nD) (t : Fin cfg0.N) : (dats m 0 c).after 9 t = iblk m c 9 t := by dsimp only [dats]
/-- Input 10 holds the same block after a grid point. -/
theorem after0_10 (c : Dev nD) (t : Fin cfg0.N) : (dats m 0 c).after 10 t = iblk m c 10 t := by dsimp only [dats]
/-- Input 11 holds the same block after a grid point. -/
theorem after0_11 (c : Dev nD) (t : Fin cfg0.N) : (dats m 0 c).after 11 t = iblk m c 11 t := by dsimp only [dats]
/-- Input 12 holds the same block after a grid point. -/
theorem after0_12 (c : Dev nD) (t : Fin cfg0.N) : (dats m 0 c).after 12 t = iblk m c 12 t := by dsimp only [dats]
/-- The first output holds the log-probabilities after a grid point. -/
theorem after0_13 (c : Dev nD) (t : Fin cfg0.N) : (dats m 0 c).after 13 t = probsAt m c t := by dsimp only [dats]

/-- Input 0 holds its block before a grid point. -/
theorem before0_0 (c : Dev nD) (t : Fin cfg0.N) (d) : (dats m 0 c).before 0 t d = iblk m c 0 t :=
  before0_0_of m (dats m 0 c) (A_eq m c 0) (after0_0 m c) t d
/-- Input 1 holds its block before a grid point. -/
theorem before0_1 (c : Dev nD) (t : Fin cfg0.N) (d) : (dats m 0 c).before 1 t d = iblk m c 1 t :=
  before0_1_of m (dats m 0 c) (A_eq m c 1) (after0_1 m c) t d
/-- Input 2 holds its block before a grid point. -/
theorem before0_2 (c : Dev nD) (t : Fin cfg0.N) (d) : (dats m 0 c).before 2 t d = iblk m c 2 t :=
  before0_2_of m (dats m 0 c) (A_eq m c 2) (after0_2 m c) t d
/-- Input 3 holds its block before a grid point. -/
theorem before0_3 (c : Dev nD) (t : Fin cfg0.N) (d) : (dats m 0 c).before 3 t d = iblk m c 3 t :=
  before0_3_of m (dats m 0 c) (A_eq m c 3) (after0_3 m c) t d
/-- Input 4 holds its block before a grid point. -/
theorem before0_4 (c : Dev nD) (t : Fin cfg0.N) (d) : (dats m 0 c).before 4 t d = iblk m c 4 t :=
  before0_4_of m (dats m 0 c) (A_eq m c 4) (after0_4 m c) t d
/-- Input 5 holds its block before a grid point. -/
theorem before0_5 (c : Dev nD) (t : Fin cfg0.N) (d) : (dats m 0 c).before 5 t d = iblk m c 5 t :=
  before0_5_of m (dats m 0 c) (A_eq m c 5) (after0_5 m c) t d
/-- Input 6 holds its block before a grid point. -/
theorem before0_6 (c : Dev nD) (t : Fin cfg0.N) (d) : (dats m 0 c).before 6 t d = iblk m c 6 t :=
  before0_6_of m (dats m 0 c) (A_eq m c 6) (after0_6 m c) t d
/-- Input 7 holds its block before a grid point. -/
theorem before0_7 (c : Dev nD) (t : Fin cfg0.N) (d) : (dats m 0 c).before 7 t d = iblk m c 7 t :=
  before0_7_of m (dats m 0 c) (A_eq m c 7) (after0_7 m c) t d
/-- Input 8 holds its block before a grid point. -/
theorem before0_8 (c : Dev nD) (t : Fin cfg0.N) (d) : (dats m 0 c).before 8 t d = iblk m c 8 t :=
  before0_8_of m (dats m 0 c) (A_eq m c 8) (after0_8 m c) t d
/-- Input 9 holds its block before a grid point. -/
theorem before0_9 (c : Dev nD) (t : Fin cfg0.N) (d) : (dats m 0 c).before 9 t d = iblk m c 9 t :=
  before0_9_of m (dats m 0 c) (A_eq m c 9) (after0_9 m c) t d
/-- Input 10 holds its block before a grid point. -/
theorem before0_10 (c : Dev nD) (t : Fin cfg0.N) (d) : (dats m 0 c).before 10 t d = iblk m c 10 t :=
  before0_10_of m (dats m 0 c) (A_eq m c 10) (after0_10 m c) t d
/-- Input 11 holds its block before a grid point. -/
theorem before0_11 (c : Dev nD) (t : Fin cfg0.N) (d) : (dats m 0 c).before 11 t d = iblk m c 11 t :=
  before0_11_of m (dats m 0 c) (A_eq m c 11) (after0_11 m c) t d
/-- Input 12 holds its block before a grid point. -/
theorem before0_12 (c : Dev nD) (t : Fin cfg0.N) (d) : (dats m 0 c).before 12 t d = iblk m c 12 t :=
  before0_12_of m (dats m 0 c) (A_eq m c 12) (after0_12 m c) t d

set_option maxHeartbeats 0 in
/-- The body's obligation at every grid point: the inputs' blocks are there, so `bodyRun` applies. -/
theorem body_obligation (c : Dev nD) :
    BodyObligationRel (dats (F := F) m 0 c) (defs₀ (F := F)) 𝒱₀ () Set.univ isStats (holds m c) := fun t => by
  rw [bigSep_W0, bigSep_W0]
  sl_whnfR [defs₀, Defs.onTc]
  simp only [show isStats 0 = false from rfl, show isStats 1 = false from rfl, show isStats 2 = false from rfl, show isStats 3 = false from rfl, show isStats 4 = false from rfl, show isStats 5 = false from rfl, show isStats 6 = false from rfl, show isStats 7 = false from rfl, show isStats 8 = false from rfl, show isStats 9 = false from rfl, show isStats 10 = false from rfl, show isStats 11 = false from rfl, show isStats 12 = false from rfl, show isStats 13 = false from rfl, show isStats 14 = true from rfl,
    before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%Y, -, H14⟩⟩
  iapply (bodyRun c _ _ _ _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Y Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexact H14
  iintro ⟨H0, H1, H2, H3, H4, H5, H6, H7, H8, H9, H10, H11, H12, H13, ⟨%X, %hX, H14⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexists X; isplitr; · ipureintro; exact hX
  iexact H14

set_option backward.isDefEq.respectTransparency.types false in
/-- The run of @main: every execution ends, every counter is zero, the arrays hold what the data allow, and the buffers of the host lines
    after the region hold what those lines make of such arrays. -/
theorem run_main : θ_run defs (onTc (τ := τ) (main (F := F))) (s₀ m ρ)
    (fun r => TailPost cfgs 0 (rdats m) (V0 m) [hostOps1] r ∧ r.2.sem = fun _ => 0) :=
  run_tail cfgs (0 : Fin 1) launch0 defs₀ 𝒱₀ (rdats m) m ρ main (fun c => (body_obligation m c).toRRel)
    (fun c w => (dats m 0 c).share_full (fun _ => rfl) w) (fun _ _ => rfl) (V0 m) [hostOps1] sfx_sub sfx_fresh sfx_keeps
    (hmain m 𝒱₀) (fun _ _ => rfl) (fun _ _ => rfl)

end Cert.Proof.Ideal

end
-- ==== Proof.Frames.lean ====
/-
  The frames: what the run leaves in the arguments' buffers, for the kernel at the extended reals and, the two programs being the same
  text, for the printed kernel at its bits.
-/
module

public import proofs.«01_k».proof.Proof.Points
public import proofs.«01_k».proof.Proof.Gen.Kernel.Frame

@[expose] public section

set_option maxRecDepth 16384

noncomputable section

namespace Cert.Proof.Ideal

open Cert.KernelIdeal Cert.KernelIdeal.Gen
open Idealize.ShloMosaic Idealize.ShloMosaic.Pipeline Idealize.ShloMosaic.TcCoe
open Idealize.SL.Sem

variable {F : FTy → Type} [FloatOps F]
variable (m : (ℓ : Loc nD τ sig) → Buf (Elt F) ℓ) (ρ : Dev nD → PrngReg)

/-- An input's array ends as launched. -/
theorem array_kept (r : PUnit × MemSt nD τ sig (Elt F)) (h : TailPost cfgs 0 (rdats m) (V0 m) [hostOps1] r) (c : Dev nD) (w : Fin cfg0.W)
    (hin : (cfg0.win w).isOut = false) {X : Buf (Elt F) ((spec0 w).arr.view.loc (c.tc : Thread nD τ))}
    (hX : V m c (Pipeline.arrRef spec0 w) = X) : r.2.mem ((spec0 w).arr.view.loc (c.tc : Thread nD τ)) = X :=
  ((congrFun ((rdats m c).ArrAt_in w hin cfg0.N) _).mp ((h c).1 w)).trans hX

/-- A buffer that is no array and that no host line after the region writes ends as launched. -/
theorem rest_kept (r : PUnit × MemSt nD τ sig (Elt F)) (h : TailPost cfgs 0 (rdats m) (V0 m) [hostOps1] r) (c : Dev nD) (b : Ref sig .tc)
    (hs : b ∈ restRefs sig spec0 \ ∅)
    (hw : ∀ op ∈ (hostOps1 : List (HloOp τ sig (Elt F))), Proc.devRef .tc b ∉ op.writes)
    (hb : ∀ w, Pipeline.arrRef spec0 w ≠ b) {X : Buf (Elt F) ((c.tc : Thread nD τ).loc b)} (hX : V m c b = X) :
    r.2.mem ((c.tc : Thread nD τ).loc b) = X := by
  obtain ⟨-, A, -, hA⟩ := h c
  rw [hA b hs, StableHlo.after_of_forall_not_mem (b := Proc.devRef .tc b) _ _ (by simpa using hw),
    Pipeline.withArrays_of_ne _ c (V0 m c) _ b hb]
  exact hX

/-- The arguments that are no array of the pipeline: the six biases. -/
def biases : List (Ref sig .tc) := [main_arg2, main_arg4, main_arg6, main_arg8, main_arg10, main_arg12]

set_option maxHeartbeats 0 in
/-- No host line after the region writes a bias. -/
theorem biases_unwritten (b : Ref sig .tc) (hb : b ∈ biases) :
    ∀ op ∈ (hostOps1 : List (HloOp τ sig (Elt F))), Proc.devRef .tc b ∉ op.writes :=
  List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (fun e => by subst e; revert hb; decide))

/-- A bias bypasses the pipeline, -/
theorem biases_rest : ∀ b ∈ biases, b ∈ restRefs sig spec0 \ ∅ := fun b hb => by
  have h : (∀ w, Pipeline.arrRef spec0 w ≠ b) ∧ b.isScoped = false := by revert b; decide
  exact Finset.mem_sdiff.mpr ⟨Pipeline.mem_restRefs_of b h.2 h.1, Finset.notMem_empty b⟩
/-- and is no array of it. -/
theorem biases_arr : ∀ b ∈ biases, ∀ w, Pipeline.arrRef spec0 w ≠ b := by decide

set_option maxHeartbeats 0 in
/-- The run ends with a core's arguments as launched. -/
theorem args_kept (r : PUnit × MemSt nD τ sig (Elt F)) (h : TailPost cfgs 0 (rdats m) (V0 m) [hostOps1] r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  have hb : ∀ (b : Ref sig .tc) (hb : b ∈ biases) {X : Buf (Elt F) ((c.tc : Thread nD τ).loc b)},
      V m c b = X → r.2.mem ((c.tc : Thread nD τ).loc b) = X := fun b hb X hX =>
    rest_kept m r h c b (biases_rest b hb) (biases_unwritten b hb) (biases_arr b hb) hX
  ⟨array_kept m r h c 0 rfl (V_main_arg0 m c),
    array_kept m r h c 1 rfl (V_main_arg1 m c),
    hb main_arg2 (by decide) (V_main_arg2 m c),
    array_kept m r h c 2 rfl (V_main_arg3 m c),
    hb main_arg4 (by decide) (V_main_arg4 m c),
    array_kept m r h c 3 rfl (V_main_arg5 m c),
    hb main_arg6 (by decide) (V_main_arg6 m c),
    array_kept m r h c 4 rfl (V_main_arg7 m c),
    hb main_arg8 (by decide) (V_main_arg8 m c),
    array_kept m r h c 5 rfl (V_main_arg9 m c),
    hb main_arg10 (by decide) (V_main_arg10 m c),
    array_kept m r h c 6 rfl (V_main_arg11 m c),
    hb main_arg12 (by decide) (V_main_arg12 m c)⟩

/-- The run ends with every argument as launched and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r hr => ⟨args_kept m r hr.1, hr.2⟩) (run_main m ρ)

end Cert.Proof.Ideal

namespace Cert.Proof.Printed

open Idealize.ShloMosaic Idealize.ShloMosaic.TcCoe Idealize.SL.Sem
open Cert.Kernel Cert.Kernel.Gen

variable {F : FTy → Type} [FloatOps F]

set_option maxHeartbeats 0 in
/-- The two programs' kernels are one, -/
theorem kernel_same : @Cert.Kernel.cc0__net_kernel F _ _ = @Cert.KernelIdeal.cc0__net_kernel F _ _ := rfl

set_option maxHeartbeats 0 in
/-- their bodies by label, -/
theorem bodies_same : @Cert.Kernel.defs₀ F _ _ = @Cert.KernelIdeal.defs₀ F _ _ :=
  congrArg Defs.onTc (funext fun l => by
    match l with
    | 0 => exact funext fun (t, s) => rfl
    | ⟨k + 1, h⟩ => exact absurd h (Nat.not_lt.2 (Nat.le_add_left _ _)))

/-- with the pipeline's, -/
theorem defs_same : @Cert.Kernel.defs F _ _ = @Cert.KernelIdeal.defs F _ _ :=
  congrArg (Pipeline.defs Cert.KernelIdeal.pcfgs) bodies_same

set_option maxHeartbeats 0 in
/-- and their @main. -/
theorem main_same : @Cert.Kernel.main F _ _ = @Cert.KernelIdeal.main F _ _ := rfl

set_option maxHeartbeats 0 in
/-- The printed kernel is the same program, so its run ends so too. -/
theorem frame_main (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (congrArg₂ (fun D M => θ_run D (onTc (τ := Cert.KernelIdeal.τ) M) ⟨m, fun _ => 0, ρ⟩ _) defs_same main_same).mpr
    (Cert.Proof.Ideal.frame_main (F := F) m ρ)

end Cert.Proof.Printed

end
-- ==== Proof.Spec.lean ====
/-
  What the network computes of one sample, as mathematics over the extended reals: its layers, the bin every activation falls in, the
  number of activations in every bin, and the entropy of the bins.
-/
module

public import Idealize.ShloMosaic.Lib.Pointwise
public import Idealize.ShloMosaic.Lib.IdealHost

@[expose] public section

noncomputable section

namespace Cert.Proof.Spec

open Idealize.ShloMosaic

/-! ## The layers -/

/-- The slope of the leaky rectifier below zero. -/
def slope : EReal := Ideal.ofBits .f32 0x3C23D70A#32

/-- The leaky rectifier. -/
def leak (v : EReal) : EReal := if 0 ≤ v then v else slope * v

/-- An affine map: a matrix times a vector, plus a bias. -/
def dense {D K : ℕ} (W : Fin D → Fin K → EReal) (b : Fin D → EReal) (a : Fin K → EReal) (d : Fin D) : EReal :=
  (∑ k, W d k * a k) + b d

/-- A layer: an affine map and the rectifier. -/
def layer {D K : ℕ} (W : Fin D → Fin K → EReal) (b : Fin D → EReal) (a : Fin K → EReal) (d : Fin D) : EReal := leak (dense W b a d)

/-- The greatest entry of a vector. -/
def high {D : ℕ} (a : Fin D → EReal) : EReal := Finset.univ.fold max ⊥ a

/-- The least entry of a vector. -/
def low {D : ℕ} (a : Fin D → EReal) : EReal := Finset.univ.fold min ⊤ a

/-- The logarithm of the softmax of a vector. -/
def logSoft {D : ℕ} (v : Fin D → EReal) (d : Fin D) : EReal :=
  (v d - high v) - Ideal.log (∑ e, Ideal.exp (v e - high v))

/-! ## The bins -/

/-- The width of a vector's range, or one where the range is empty. -/
def span {D : ℕ} (a : Fin D → EReal) : EReal := if 0 < high a - low a then high a - low a else 1

/-- An entry's place in the vector's range, scaled to `D` bins. -/
def place {D : ℕ} (a : Fin D → EReal) (d : Fin D) : EReal := Ideal.div (a d - low a) (span a) * ((D : ℝ) : EReal)

/-- The bin a place falls in: rounded down and held between zero and the last of `D` bins. -/
def slotOf (D : ℕ) : EReal → ℕ
  | ⊥ => 0
  | ⊤ => D - 1
  | (r : ℝ) => (min (D - 1 : ℤ) (max 0 ⌊r⌋)).toNat

/-- The bin of an entry. -/
def slot {D : ℕ} (a : Fin D → EReal) (d : Fin D) : ℕ := slotOf D (place a d)

/-- The number of entries in a bin. -/
def tally {D : ℕ} (a : Fin D → EReal) (j : ℕ) : ℕ := (Finset.univ.filter fun d => slot a d = j).card

/-- The sum of `n · log n` over the bins. -/
def weight {D : ℕ} (a : Fin D → EReal) : ℝ := ∑ j : Fin D, (tally a j : ℝ) * Real.log (tally a j)

/-- The mean over 65536 samples of the entropy of the bins plus the logarithm of their number, of the samples' weights. -/
def entropy (D : ℕ) (w : Fin 65536 → ℝ) : EReal :=
  ((2 * Real.log D - (∑ b, w b) / (D * 65536) : ℝ) : EReal)

/-! ## The network -/

/-- The network's weights and biases. -/
structure Params where
  W1 : Fin 256 → Fin 784 → EReal
  b1 : Fin 256 → EReal
  W2 : Fin 128 → Fin 256 → EReal
  b2 : Fin 128 → EReal
  W3 : Fin 128 → Fin 128 → EReal
  b3 : Fin 128 → EReal
  W4 : Fin 128 → Fin 128 → EReal
  b4 : Fin 128 → EReal
  W5 : Fin 32 → Fin 128 → EReal
  b5 : Fin 32 → EReal
  W6 : Fin 10 → Fin 32 → EReal
  b6 : Fin 10 → EReal

/-- The network of the twelve arrays of its weights and biases. -/
def Params.of (A1 : FVec Ideal ⟨2, ![256, 784]⟩ .f32) (B1 : FVec Ideal ⟨1, ![256]⟩ .f32) (A2 : FVec Ideal ⟨2, ![128, 256]⟩ .f32)
    (B2 : FVec Ideal ⟨1, ![128]⟩ .f32) (A3 : FVec Ideal ⟨2, ![128, 128]⟩ .f32) (B3 : FVec Ideal ⟨1, ![128]⟩ .f32)
    (A4 : FVec Ideal ⟨2, ![128, 128]⟩ .f32) (B4 : FVec Ideal ⟨1, ![128]⟩ .f32) (A5 : FVec Ideal ⟨2, ![32, 128]⟩ .f32)
    (B5 : FVec Ideal ⟨1, ![32]⟩ .f32) (A6 : FVec Ideal ⟨2, ![10, 32]⟩ .f32) (B6 : FVec Ideal ⟨1, ![10]⟩ .f32) : Params where
  W1 d k := A1 (ix2 d k)
  b1 d := B1 (ix1 d)
  W2 d k := A2 (ix2 d k)
  b2 d := B2 (ix1 d)
  W3 d k := A3 (ix2 d k)
  b3 d := B3 (ix1 d)
  W4 d k := A4 (ix2 d k)
  b4 d := B4 (ix1 d)
  W5 d k := A5 (ix2 d k)
  b5 d := B5 (ix1 d)
  W6 d k := A6 (ix2 d k)
  b6 d := B6 (ix1 d)

/-- The samples of their array: its rows. -/
def samples (X : FVec Ideal ⟨2, ![65536, 784]⟩ .f32) (b : Fin 65536) : Fin 784 → EReal := fun k => X (ix2 b k)

variable (p : Params) (x : Fin 784 → EReal)

/-- The activations of the five hidden layers, -/
def a1 : Fin 256 → EReal := layer p.W1 p.b1 x
def a2 : Fin 128 → EReal := layer p.W2 p.b2 (a1 p x)
def a3 : Fin 128 → EReal := layer p.W3 p.b3 (a2 p x)
def a4 : Fin 128 → EReal := layer p.W4 p.b4 (a3 p x)
def a5 : Fin 32 → EReal := layer p.W5 p.b5 (a4 p x)

/-- and the log-probabilities. -/
def out : Fin 10 → EReal := logSoft fun d => max (dense p.W6 p.b6 (a5 p x) d) 0

/-- The weights of the five layers' bins. -/
def weights : Fin 5 → ℝ := ![weight (a1 p x), weight (a2 p x), weight (a3 p x), weight (a4 p x), weight (a5 p x)]

/-! ## The results -/

/-- The first result: of every sample, its ten log-probabilities. -/
def logProbs (xs : Fin 65536 → Fin 784 → EReal) : FVec Ideal ⟨2, ![65536, 10]⟩ .f32 := fun j => out p (xs (j 0)) (j 1)

/-- The others: the entropy of layer `i`, of `D` activations. -/
def layerEntropy (xs : Fin 65536 → Fin 784 → EReal) (D : ℕ) (i : Fin 5) : FVec Ideal ⟨0, ![]⟩ .f32 :=
  fun _ => entropy D fun b => weights p (xs b) i

/-! ## The bins, read two ways -/

/-- A bin is one of the `D`. -/
theorem slotOf_lt {D : ℕ} (hD : 0 < D) (y : EReal) : slotOf D y < D := by
  induction y with
  | bot => exact hD
  | top => exact Nat.sub_lt hD one_pos
  | coe r =>
    show (min (D - 1 : ℤ) (max 0 ⌊r⌋)).toNat < D
    omega

/-- An entry's bin is one of `D`. -/
theorem slot_lt {D : ℕ} (a : Fin D → EReal) (d : Fin D) : slot a d < D := slotOf_lt (d.pos) _

/-- Rounded down and held between zero and the last bin as an extended real, a place is its bin. -/
theorem clip_float {D : ℕ} (hD : 0 < D) (y : EReal) :
    min (max (Ideal.liftRound Int.floor y) 0) (((D - 1 : ℕ) : ℝ) : EReal) = ((slotOf D y : ℝ) : EReal) := by
  induction y with
  | bot =>
    show min (max ⊥ 0) _ = ((((0 : ℕ) : ℕ) : ℝ) : EReal)
    rw [max_eq_right bot_le]
    have : (0 : EReal) ≤ (((D - 1 : ℕ) : ℝ) : EReal) := by exact_mod_cast Nat.zero_le _
    rw [min_eq_left this]; simp
  | top =>
    show min (max ⊤ 0) _ = (((D - 1 : ℕ) : ℝ) : EReal)
    rw [max_eq_left le_top, min_eq_right le_top]
  | coe r =>
    rw [Ideal.liftRound_coe]
    have hs : (((slotOf D (r : EReal) : ℕ) : ℤ)) = min (max ⌊r⌋ 0) ((D - 1 : ℕ) : ℤ) := by
      show ((min (D - 1 : ℤ) (max 0 ⌊r⌋)).toNat : ℤ) = _
      omega
    have hs' : ((slotOf D (r : EReal) : ℕ) : ℝ) = min (max (⌊r⌋ : ℝ) 0) ((D - 1 : ℕ) : ℝ) := by
      exact_mod_cast congrArg (fun z : ℤ => (z : ℝ)) hs
    rw [hs', EReal.coe_strictMono.monotone.map_min, EReal.coe_strictMono.monotone.map_max]; rfl

/-- Rounded down, converted to an integer and held between zero and the last bin, a place is its bin. -/
theorem clip_int {D : ℕ} (hD : 0 < D) (hD' : D < 2 ^ 30) (y : EReal) :
    min ((D : ℤ) - 1) (max 0 (Ideal.toIntClamped (-(2 ^ 31 : ℕ)) ((2 ^ 31 : ℕ) - 1) (Ideal.liftRound Int.floor y)))
      = (slotOf D y : ℤ) := by
  induction y with
  | bot =>
    show min ((D : ℤ) - 1) (max 0 (-(2 ^ 31 : ℕ))) = ((0 : ℕ) : ℤ)
    norm_num; omega
  | top =>
    show min ((D : ℤ) - 1) (max 0 ((2 ^ 31 : ℕ) - 1)) = ((D - 1 : ℕ) : ℤ)
    norm_num; omega
  | coe r =>
    rw [Ideal.liftRound_coe, Ideal.toIntClamped_coe]
    show _ = ((min (D - 1 : ℤ) (max 0 ⌊r⌋)).toNat : ℤ)
    simp only [Int.floor_intCast, Int.ceil_intCast, ite_self]
    norm_num; omega

/-! ## The counts -/

/-- Every entry is in one bin. -/
theorem sum_tally {D : ℕ} (a : Fin D → EReal) : ∑ j : Fin D, tally a j = D := by
  have h := Finset.card_eq_sum_card_fiberwise (s := (Finset.univ : Finset (Fin D))) (t := (Finset.univ : Finset (Fin D)))
    (f := fun d => (⟨slot a d, slot_lt a d⟩ : Fin D)) (fun _ _ => Finset.mem_coe.2 (Finset.mem_univ _))
  rw [Finset.card_univ, Fintype.card_fin] at h
  refine Eq.trans (Finset.sum_congr rfl fun j _ => ?_) h.symm
  unfold tally
  congr 1
  ext d
  simp [Fin.ext_iff]

/-- The kernel's term of one bin: the count times the logarithm of the count, one at least. -/
theorem tlogt_nat (n : ℕ) :
    ((n : ℝ) : EReal) * Ideal.log (max ((n : ℝ) : EReal) 1) = (((n : ℝ) * Real.log n : ℝ) : EReal) := by
  rcases Nat.eq_zero_or_pos n with rfl | h
  · have : Ideal.log (max (((0 : ℕ) : ℝ) : EReal) 1) = ((Real.log 1 : ℝ) : EReal) := by
      rw [max_eq_right (by simp)]
      show Ideal.log ((1 : ℝ) : EReal) = _
      show (if (1 : ℝ) ≤ 0 then ⊥ else _) = _
      rw [if_neg (by norm_num)]
    rw [this]; simp
  · have h1 : (1 : ℝ) ≤ n := by exact_mod_cast h
    rw [max_eq_left (by exact_mod_cast h1)]
    have : Ideal.log ((n : ℝ) : EReal) = ((Real.log n : ℝ) : EReal) := by
      show (if (n : ℝ) ≤ 0 then ⊥ else _) = _
      rw [if_neg (by linarith)]
    rw [this, EReal.coe_mul]

/-- The entropy of the bins, of their shares: twice the logarithm of the number of bins less the counts' weight over it. -/
theorem entropy_shares {D : ℕ} (hD : 0 < D) (a : Fin D → EReal) :
    -(∑ j : Fin D, (tally a j / D : ℝ) * Real.log (tally a j / D)) + Real.log D = 2 * Real.log D - weight a / D := by
  have hD' : (D : ℝ) ≠ 0 := by exact_mod_cast hD.ne'
  have hterm : ∀ j : Fin D, (tally a j / D : ℝ) * Real.log (tally a j / D)
      = (tally a j : ℝ) * Real.log (tally a j) / D - (tally a j : ℝ) * (Real.log D / D) := fun j => by
    rcases Nat.eq_zero_or_pos (tally a j) with h | h
    · simp [h]
    · rw [Real.log_div (by exact_mod_cast h.ne') hD']; ring
  have hs : ∑ j : Fin D, (tally a j : ℝ) = D := by exact_mod_cast sum_tally a
  rw [Finset.sum_congr rfl fun j _ => hterm j, Finset.sum_sub_distrib, ← Finset.sum_mul, hs, ← Finset.sum_div, weight]
  field_simp
  ring

/-- The mean of the samples' entropies. -/
theorem entropy_mean {D : ℕ} (hD : 0 < D) (w : Fin 65536 → ℝ) :
    (∑ b, (2 * Real.log D - w b / D)) / 65536 = 2 * Real.log D - (∑ b, w b) / (D * 65536) := by
  have hD' : (D : ℝ) ≠ 0 := by exact_mod_cast hD.ne'
  rw [Finset.sum_sub_distrib, ← Finset.sum_div, Finset.sum_const, Finset.card_univ, Fintype.card_fin]
  simp only [nsmul_eq_mul]
  field_simp
  norm_num
  ring

end Cert.Proof.Spec
-- ==== Proof.Block.lean ====
/-
  The functions of `Net` over the extended reals, read at an index: a layer of one sample, an entry's bin, the count of a bin, and the
  sum over the bins.
-/
module

public import proofs.«01_k».proof.Proof.Net
public import proofs.«01_k».proof.Proof.Spec
public import Idealize.ShloMosaic.Lib.MatmulPlain

@[expose] public section

set_option maxRecDepth 16384

noncomputable section

namespace Cert.Proof.Block

open Idealize.ShloMosaic Cert.Proof.Net Cert.Proof.Spec

/-! ## Constants -/

/-- The word of the greatest value. -/
theorem bits_top : Ideal.ofBits .f32 0x7F800000#32 = ⊤ := by simp [Ideal.ofBits, Ideal.ieee]
/-- The word of the least value. -/
theorem bits_bot : Ideal.ofBits .f32 0xFF800000#32 = ⊥ := by simp [Ideal.ofBits, Ideal.ieee]
/-- The word of 256. -/
theorem bits_256 : Ideal.ofBits .f32 0x43800000#32 = (((256 : ℕ) : ℝ) : EReal) := by
  simp [Ideal.ofBits, Ideal.ieee]; norm_num [← EReal.coe_mul]
/-- The word of 255. -/
theorem bits_255 : Ideal.ofBits .f32 0x437F0000#32 = (((255 : ℕ) : ℝ) : EReal) := by
  simp [Ideal.ofBits, Ideal.ieee]; norm_num [← EReal.coe_mul]
/-- The word of 128. -/
theorem bits_128 : Ideal.ofBits .f32 0x43000000#32 = (((128 : ℕ) : ℝ) : EReal) := by
  simp [Ideal.ofBits, Ideal.ieee]; norm_num [← EReal.coe_mul]
/-- The word of 127. -/
theorem bits_127 : Ideal.ofBits .f32 0x42FE0000#32 = (((127 : ℕ) : ℝ) : EReal) := by
  simp [Ideal.ofBits, Ideal.ieee]; norm_num [← EReal.coe_mul]
/-- The word of 32. -/
theorem bits_32 : Ideal.ofBits .f32 0x42000000#32 = (((32 : ℕ) : ℝ) : EReal) := by
  simp [Ideal.ofBits, Ideal.ieee]; norm_num [← EReal.coe_mul]
/-- The word of 31. -/
theorem bits_31 : Ideal.ofBits .f32 0x41F80000#32 = (((31 : ℕ) : ℝ) : EReal) := by
  simp [Ideal.ofBits, Ideal.ieee]; norm_num [← EReal.coe_mul]
/-- The word of 2. -/
theorem bits_2 : Ideal.ofBits .f32 0x40000000#32 = ((2 : ℝ) : EReal) := by
  simp [Ideal.ofBits, Ideal.ieee]; norm_num [← EReal.coe_mul]
/-- The word of 65536. -/
theorem bits_65536 : Ideal.ofBits .f32 0x47800000#32 = ((65536 : ℝ) : EReal) := by
  simp [Ideal.ofBits, Ideal.ieee]; norm_num [← EReal.coe_mul]

/-! ## The layers -/

/-- The rectifier's choice at one entry. -/
theorem leak_select (v : EReal) : Scalar.select (Ideal.cmp .oge v 0) v (slope * v) = leak v := by
  unfold leak
  by_cases h : 0 ≤ v <;> simp [Ideal.cmp, Scalar.select, h]

/-- The rectifier of a block, at an entry. -/
theorem leaky_apply {s : Shape} (v : FVec Ideal s .f32) (i : s.Idx) : leaky v i = leak (v i) := by
  rw [← leak_select]
  show Scalar.select (Ideal.cmp .oge (v i) (Ideal.ofBits .f32 0x00000000#32)) _ _ = _
  rw [Ideal.ofBits_zero_f32]; rfl

/-- A layer whose activations stand in columns, of one column. -/
theorem affine_apply {D K : ℕ} (hu : (Sh D 512).ShapeCasts (Sh D 512)) (W : FVec Ideal (Sh D K) .f32) (a : FVec Ideal (Sh K 512) .f32)
    (b : FVec Ideal (Sh D 512) .f32) (d : Fin D) (l : Fin 512) :
    affine (DotDims.plain D K 512) hu W a b (ix2 d l)
      = dense (fun d k => W (ix2 d k)) (fun d => b (ix2 d l)) (fun k => a (ix2 k l)) d := by
  unfold affine dense
  simp only [ix2_eq_valueIdx]
  rw [shapeCast_self, ValueIdx.addf_apply, matmul, Ideal.matmul_plain_apply]
  show Ideal.ofBits .f32 0x00000000#32 + _ + _ = _
  rw [Ideal.ofBits_zero_f32, zero_add]

/-- A layer whose activations stand in rows, of one row. -/
theorem affine_rows_apply {D K : ℕ} (hu : (Sh D 512).ShapeCasts (Sh D 512)) (W : FVec Ideal (Sh D K) .f32) (a : FVec Ideal (Sh 512 K) .f32)
    (b : FVec Ideal (Sh D 512) .f32) (d : Fin D) (l : Fin 512) :
    affine (DotDims.transposedRhs D K 512) hu W a b (ix2 d l)
      = dense (fun d k => W (ix2 d k)) (fun d => b (ix2 d l)) (fun k => a (ix2 l k)) d := by
  unfold affine dense
  simp only [ix2_eq_valueIdx]
  rw [shapeCast_self, ValueIdx.addf_apply, matmul, Ideal.matmul_transposedRhs_apply]
  show Ideal.ofBits .f32 0x00000000#32 + _ + _ = _
  rw [Ideal.ofBits_zero_f32, zero_add]

/-! ## The bin -/

/-- A column's least entry. -/
theorem colMin_apply {D : ℕ} (h : Rows D) (a : FVec Ideal (Sh D 512) .f32) (l : Fin 512) :
    colMin h a (ix2 (0 : Fin 1) l) = low fun d => a (ix2 d l) := by
  unfold low
  pointwise [colMin]
  rw [bits_top]

/-- A column's greatest entry. -/
theorem colMax_apply {D : ℕ} (h : Rows D) (a : FVec Ideal (Sh D 512) .f32) (l : Fin 512) :
    colMax h a (ix2 (0 : Fin 1) l) = high fun d => a (ix2 d l) := by
  unfold high
  pointwise [colMax]
  rw [bits_bot]

/-- The width's choice. -/
theorem span_select (w : EReal) : Scalar.select (Ideal.cmp .ogt w 0) w 1 = if 0 < w then w else 1 := by
  by_cases h : 0 < w <;> simp [Ideal.cmp, Scalar.select, h]

/-- A column's range, one where it is empty. -/
theorem width_apply {D : ℕ} (h : Rows D) (a : FVec Ideal (Sh D 512) .f32) (l : Fin 512) :
    width h a (ix2 (0 : Fin 1) l) = span fun d => a (ix2 d l) := by
  unfold span
  rw [← span_select, ← colMax_apply h a l, ← colMin_apply h a l]
  show Scalar.select (Ideal.cmp .ogt _ (Ideal.ofBits .f32 0x00000000#32)) _ (Ideal.ofBits .f32 0x3F800000#32) = _
  rw [Ideal.ofBits_zero_f32, Ideal.ofBits_one_f32]; rfl

/-- A row broadcast down a block, at an entry. -/
theorem down_apply {D : ℕ} (h : (Sh 1 512).Broadcasts (Sh D 512)) (v : FVec Ideal (Sh 1 512) .f32) (d : Fin D) (l : Fin 512) :
    broadcastTo (Sh D 512) v h (ix2 d l) = v (ix2 (0 : Fin 1) l) := by
  pointwise

/-- An entry's bin, as a real number. -/
theorem index_apply {D : ℕ} (hD : 0 < D) (h : Rows D) {bins last : BitVec 32} (hb : Ideal.ofBits .f32 bins = ((D : ℝ) : EReal))
    (hl : Ideal.ofBits .f32 last = (((D - 1 : ℕ) : ℝ) : EReal)) (a : FVec Ideal (Sh D 512) .f32) (d : Fin D) (l : Fin 512) :
    index h bins last a (ix2 d l) = ((slot (fun d => a (ix2 d l)) d : ℝ) : EReal) := by
  unfold slot
  rw [← clip_float hD, ← hl]
  unfold place
  rw [← hb, ← width_apply h, ← colMin_apply h, ← down_apply h.bc (width h a) d l, ← down_apply h.bc (colMin h a) d l, ← Ideal.ofBits_zero_f32]
  rfl

/-! ## The count of a bin -/

/-- Adding the upper half of a column's entries to the lower half keeps their sum. -/
theorem halve_sum {n : ℕ} (h0 : (Sh (n + n) 512).Slices ![0, 0] (Sh n 512)) (h1 : (Sh (n + n) 512).Slices ![n, 0] (Sh n 512))
    (v : FVec Ideal (Sh (n + n) 512) .bf16) (l : Fin 512) :
    ∑ r : Fin n, halve h0 h1 v (ix2 r l) = ∑ r : Fin (n + n), v (ix2 r l) := by
  rw [Fin.sum_univ_add, ← Finset.sum_add_distrib]
  refine Finset.sum_congr rfl fun r _ => ?_
  unfold halve
  rw [ValueIdx.addf_apply, extractStridedSlice_apply _ _ h0 _ (ix2 (Fin.castAdd n r) l) (fun a => by fin_cases a <;> simp [ix2]),
    extractStridedSlice_apply _ _ h1 _ (ix2 (Fin.natAdd n r) l) (fun a => by fin_cases a <;> simp [ix2, Nat.add_comm])]

/-- A tree keeps the sum of every column. -/
def Keeps {D : ℕ} (tree : FVec Ideal (Sh D 512) .bf16 → FVec Ideal (Sh 16 512) .bf16) : Prop :=
  ∀ v l, ∑ r : Fin 16, tree v (ix2 r l) = ∑ d : Fin D, v (ix2 d l)

/-- The halvings of 32 rows keep the sum, -/
theorem keeps32 : Keeps tree32 := fun v l => halve_sum (n := 16) _ _ v l
/-- those of 128 rows, -/
theorem keeps128 : Keeps tree128 := fun v l =>
  (keeps32 _ l).trans ((halve_sum (n := 32) _ _ _ l).trans (halve_sum (n := 64) _ _ v l))
/-- and those of 256 rows. -/
theorem keeps256 : Keeps tree256 := fun v l => (keeps128 _ l).trans (halve_sum (n := 128) _ _ v l)

/-- The tree and the sum over its rows count the entries in a bin. -/
theorem count_apply {D : ℕ} {tree : FVec Ideal (Sh D 512) .bf16 → FVec Ideal (Sh 16 512) .bf16} (ht : Keeps tree)
    (idx : FVec Ideal (Sh D 512) .bf16) (a : Fin 512 → Fin D → EReal) (ha : ∀ d l, idx (ix2 d l) = ((slot (a l) d : ℝ) : EReal))
    (j0 : Ideal .f32) (w : BitVec 32) (j : ℕ) (hj : j0 + Ideal.ofBits .f32 w = ((j : ℝ) : EReal)) (l : Fin 512) :
    Net.count tree idx j0 w (ix2 (0 : Fin 1) l) = ((tally (a l) j : ℝ) : EReal) := by
  have e : ∀ v : FVec Ideal (Sh 16 512) .bf16,
      shapeCast (Sh 1 512) (multiReduction .add [0] Row (extf .f32 v bits_lt) 0x00000000#32 (by decide) (.inl rfl) rfl) (by decide)
        (ix2 (0 : Fin 1) l) = ∑ r : Fin 16, v (ix2 r l) := fun v => by
    pointwise
  unfold Net.count
  rw [e, ht]
  have hs : ∀ d : Fin D, select (cmpf .oeq idx (broadcast (Sh D 512) (Scalar.truncf .bf16 bits_lt (Scalar.addf j0 (Scalar.ofBits .f32 w)))))
      (broadcast (Sh D 512) (Scalar.ofBits (F := Ideal) .bf16 0x3F80#16)) (broadcast (Sh D 512) (Scalar.ofBits .bf16 0x0000#16)) (ix2 d l)
        = if slot (a l) d = j then (1 : EReal) else 0 := fun d => by
    show Scalar.select (Ideal.cmp .oeq (idx (ix2 d l)) (j0 + Ideal.ofBits .f32 w)) (Ideal.ofBits .bf16 0x3F80#16) (Ideal.ofBits .bf16 0x0000#16) = _
    rw [hj, ha, Ideal.ofBits_one_bf16, Ideal.ofBits_zero_bf16]
    by_cases h : slot (a l) d = j
    · simp [Ideal.cmp, Scalar.select, h]
    · have : ¬(((slot (a l) d : ℝ) : EReal) = ((j : ℝ) : EReal)) := fun e => h (by exact_mod_cast e)
      simp [Ideal.cmp, Scalar.select, h]
  rw [Finset.sum_congr rfl fun d _ => hs d, Finset.sum_ite, Finset.sum_const_zero, add_zero, Finset.sum_const]
  unfold tally
  simp

/-- A row of eight stacked rows. -/
theorem stack_apply (c : Fin 8 → FVec Ideal (Sh 1 512) .f32) (r : Fin 8) (l : Fin 512) :
    stack c (ix2 r l) = c r (ix2 (0 : Fin 1) l) := by
  unfold stack
  fin_cases r <;> pointwise

/-- A count times the logarithm of the greater of it and one. -/
theorem tlogt_apply (T : FVec Ideal (Sh 8 512) .f32) (r : Fin 8) (l : Fin 512) :
    tlogt T (ix2 r l) = T (ix2 r l) * Ideal.log (max (T (ix2 r l)) 1) := by
  rw [← Ideal.ofBits_one_f32]; rfl

/-! ## The sum over the bins -/

/-- A positive number's word, of its exponent and the bits below. -/
theorem bits_nat (b : BitVec 32) (n : ℕ) (hs : (b.extractLsb' 31 1 == 1#1) = false) (hlo : (b.extractLsb' 23 8).toNat ≠ 0)
    (hhi : (b.extractLsb' 23 8).toNat ≤ 150)
    (hn : 2 ^ 23 + (b.extractLsb' 0 23).toNat = n * 2 ^ (150 - (b.extractLsb' 23 8).toNat)) :
    Ideal.ofBits .f32 b = ((n : ℝ) : EReal) := by
  show Ideal.ieee 8 23 b = _
  unfold Ideal.ieee
  simp only [hs, hn]
  rw [if_neg (by omega), if_neg hlo]
  congr 1
  obtain ⟨k, hk⟩ : ∃ k : ℕ, 150 - (b.extractLsb' 23 8).toNat = k := ⟨_, rfl⟩
  have e : (((b.extractLsb' 23 8).toNat : ℤ) - (2 ^ (8 - 1) - 1) - (23 : ℕ)) = -(k : ℤ) := by
    generalize (b.extractLsb' 23 8).toNat = x at *
    norm_num; omega
  rw [e, hk, zpow_neg, zpow_natCast]
  push_cast
  field_simp

/-- The numbers the words stand for. -/
theorem word_val (i : Fin 8) (r : Fin 8) : Ideal.ofBits .f32 (word[i] r) = (((8 * i + r : ℕ) : ℝ) : EReal) := by
  by_cases h0 : (i : ℕ) = 0 ∧ (r : ℕ) = 0
  · obtain ⟨rfl, rfl⟩ : i = 0 ∧ r = 0 := ⟨Fin.ext h0.1, Fin.ext h0.2⟩
    exact Ideal.ofBits_zero_f32.trans (by simp)
  · have key : ∀ i r : Fin 8, ¬((i : ℕ) = 0 ∧ (r : ℕ) = 0) → ((word[i] r).extractLsb' 31 1 == 1#1) = false
        ∧ ((word[i] r).extractLsb' 23 8).toNat ≠ 0 ∧ ((word[i] r).extractLsb' 23 8).toNat ≤ 150
        ∧ 2 ^ 23 + ((word[i] r).extractLsb' 0 23).toNat = (8 * i + r) * 2 ^ (150 - ((word[i] r).extractLsb' 23 8).toNat) := by
      decide +kernel
    obtain ⟨a, b, c, d⟩ := key i r h0
    exact bits_nat _ _ a b c d

/-- A finite sum of real numbers as extended reals. -/
theorem coe_sum {ι : Type} (s : Finset ι) (f : ι → ℝ) : ∑ i ∈ s, ((f i : ℝ) : EReal) = ((∑ i ∈ s, f i : ℝ) : EReal) := by
  classical
  induction s using Finset.induction with
  | empty => simp
  | insert a s h ih => rw [Finset.sum_insert h, Finset.sum_insert h, ih, EReal.coe_add]

/-- One bin's term of a vector's weight. -/
def term {D : ℕ} (a : Fin D → EReal) (j : ℕ) : ℝ := (tally a j : ℝ) * Real.log (tally a j)

/-- The accumulator after some bins, eight at a time, at one entry: their terms added. -/
theorem bins_apply {D : ℕ} {tree : FVec Ideal (Sh D 512) .bf16 → FVec Ideal (Sh 16 512) .bf16} (ht : Keeps tree)
    (idx : FVec Ideal (Sh D 512) .bf16) (a : Fin 512 → Fin D → EReal) (ha : ∀ d l, idx (ix2 d l) = ((slot (a l) d : ℝ) : EReal))
    (j0 : Ideal .f32) (r : Fin 8) (l : Fin 512) : ∀ (ws : List (Fin 8 → BitVec 32)) (base : ℕ)
      (hw : ∀ (i : ℕ) (hi : i < ws.length) (r : Fin 8), j0 + Ideal.ofBits .f32 (ws[i] r) = (((base + 8 * i + r : ℕ) : ℝ) : EReal))
      (acc : FVec Ideal (Sh 8 512) .f32) (s : ℝ), acc (ix2 r l) = (s : EReal) →
      bins tree idx j0 ws acc (ix2 r l) = ((s + ∑ i ∈ Finset.range ws.length, term (a l) (base + 8 * i + r) : ℝ) : EReal)
  | [], base, hw, acc, s, hs => by simpa [bins] using hs
  | w :: ws, base, hw, acc, s, hs => by
    have h0 := hw 0 (Nat.succ_pos _) r
    have step : addf acc (tlogt (stack fun r => Net.count tree idx j0 (w r))) (ix2 r l) = ((s + term (a l) (base + 8 * 0 + r) : ℝ) : EReal) := by
      rw [ValueIdx.addf_apply, tlogt_apply, stack_apply, count_apply ht idx a ha j0 (w r) _ h0 l, tlogt_nat, hs, EReal.coe_add]
      rfl
    have := bins_apply ht idx a ha j0 r l ws (base + 8) (fun i hi r => by
      have := hw (i + 1) (Nat.succ_lt_succ hi) r
      rw [List.getElem_cons_succ] at this
      rw [this]; congr 3; ring) _ _ step
    refine Eq.trans this ?_
    rw [List.length_cons, Finset.sum_range_succ']
    congr 1
    have e : ∀ i, base + 8 + 8 * i + (r : ℕ) = base + 8 * (i + 1) + r := fun i => by ring
    simp only [e]
    ring

/-- Bins counted `m` at a time are all the bins. -/
theorem sum_chunks (f : ℕ → ℝ) (m n : ℕ) :
    ∑ k ∈ Finset.range n, ∑ i ∈ Finset.range m, f (m * k + i) = ∑ j ∈ Finset.range (m * n), f j := by
  induction n with
  | zero => simp
  | succ n ih => rw [Finset.sum_range_succ, ih, Nat.mul_succ, Finset.sum_range_add]

/-- The accumulator after one trip of 64 bins. -/
theorem trip_apply {D n : ℕ} (hn : n ≤ 4) {tree : FVec Ideal (Sh D 512) .bf16 → FVec Ideal (Sh 16 512) .bf16} (ht : Keeps tree)
    (idx : FVec Ideal (Sh D 512) .bf16) (a : Fin 512 → Fin D → EReal) (ha : ∀ d l, idx (ix2 d l) = ((slot (a l) d : ℝ) : EReal))
    (k : Fin n) (r : Fin 8) (l : Fin 512) (acc : FVec Ideal (Sh 8 512) .f32) (s : ℝ) (hs : acc (ix2 r l) = (s : EReal)) :
    trip tree idx k acc (ix2 r l) = ((s + ∑ i ∈ Finset.range 8, term (a l) (64 * k + 8 * i + r) : ℝ) : EReal) := by
  have hk : (Scalar.sitofp .f32 (Scalar.muli (Scf.iv 0#32 1#32 k) 64#32) : Ideal .f32) = (((64 * k : ℕ) : ℝ) : EReal) := by
    have key : ∀ k : Fin 4, (Scalar.muli (Scf.iv 0#32 1#32 k) 64#32 : BitVec 32).toInt = ((64 * k : ℕ) : ℤ) := by decide +kernel
    show (((BitVec.toInt _ : ℤ) : ℝ) : EReal) = _
    have hk := key (k.castLE hn)
    rw [Fin.val_castLE] at hk
    rw [hk]
    simp
  unfold trip
  refine bins_apply ht idx a ha _ r l word (64 * k) (fun i hi r => ?_) acc s hs
  rw [hk]
  have := word_val ⟨i, hi⟩ r
  rw [show word[i] r = word[(⟨i, hi⟩ : Fin 8)] r from rfl, this, ← EReal.coe_add]
  congr 1
  push_cast
  ring

/-- The accumulator after all the trips. -/
theorem fold_apply {D n : ℕ} (hn : n ≤ 4) {tree : FVec Ideal (Sh D 512) .bf16 → FVec Ideal (Sh 16 512) .bf16} (ht : Keeps tree)
    (idx : FVec Ideal (Sh D 512) .bf16) (a : Fin 512 → Fin D → EReal) (ha : ∀ d l, idx (ix2 d l) = ((slot (a l) d : ℝ) : EReal))
    (r : Fin 8) (l : Fin 512) :
    Scf.fold (n := n) (trip tree idx) zero8 (ix2 r l)
      = ((∑ k : Fin n, ∑ i ∈ Finset.range 8, term (a l) (64 * k + 8 * i + r) : ℝ) : EReal) := by
  have aux : ∀ (L : List (Fin n)) (acc : FVec Ideal (Sh 8 512) .f32) (s : ℝ), acc (ix2 r l) = (s : EReal) →
      L.foldl (fun t k => trip tree idx k t) acc (ix2 r l)
        = ((s + (L.map fun k : Fin n => ∑ i ∈ Finset.range 8, term (a l) (64 * k + 8 * i + r)).sum : ℝ) : EReal) := by
    intro L
    induction L with
    | nil => intro acc s hs; simpa using hs
    | cons k L ih =>
      intro acc s hs
      refine (ih _ _ (trip_apply hn ht idx a ha k r l acc s hs)).trans ?_
      rw [List.map_cons, List.sum_cons, add_assoc]
  rw [Scf.fold_eq, aux _ _ 0 (by show Ideal.ofBits .f32 0x00000000#32 = _; rw [Ideal.ofBits_zero_f32]; rfl), zero_add,
    Fin.sum_univ_def]

/-- The rows of the accumulator added. -/
theorem statRow_apply (t : FVec Ideal (Sh 8 512) .f32) (l : Fin 512) :
    statRow t (ix3 (0 : Fin 1) (0 : Fin 1) l) = ∑ r : Fin 8, t (ix2 r l) := by
  pointwise [statRow]

/-- Rows and groups of eight, in `n` blocks of `8 m` bins, are all the bins. -/
theorem sum_rows (f : ℕ → ℝ) (m n : ℕ) :
    ∑ r : Fin 8, ∑ k ∈ Finset.range n, ∑ i ∈ Finset.range m, f (8 * m * k + 8 * i + r) = ∑ j ∈ Finset.range (8 * m * n), f j := by
  rw [Finset.sum_comm, ← sum_chunks]
  refine Finset.sum_congr rfl fun k _ => ?_
  rw [Finset.sum_comm, ← sum_chunks (fun j => f (8 * m * k + j)) 8 m]
  refine Finset.sum_congr rfl fun i _ => ?_
  rw [Finset.sum_range]
  simp only [add_assoc]

/-- The weight as a sum over the numbers below `D`. -/
theorem weight_eq {D : ℕ} (a : Fin D → EReal) : ∑ j ∈ Finset.range D, term a j = weight a := by
  rw [Finset.sum_range]; rfl

/-- The trips over all the bins add up to a column's weight. -/
theorem trips_weight {D n : ℕ} (hD : 8 * 8 * n = D) (hn : n ≤ 4) {tree : FVec Ideal (Sh D 512) .bf16 → FVec Ideal (Sh 16 512) .bf16}
    (ht : Keeps tree) (idx : FVec Ideal (Sh D 512) .bf16) (a : Fin 512 → Fin D → EReal)
    (ha : ∀ d l, idx (ix2 d l) = ((slot (a l) d : ℝ) : EReal)) (l : Fin 512) :
    statRow (Scf.fold (n := n) (trip tree idx) zero8) (ix3 (0 : Fin 1) (0 : Fin 1) l) = ((weight (a l) : ℝ) : EReal) := by
  rw [statRow_apply, Finset.sum_congr rfl fun r _ => fold_apply hn ht idx a ha r l, coe_sum, ← weight_eq,
    ← congrArg (fun k => ∑ j ∈ Finset.range k, term (a l) j) hD, ← sum_rows]
  simp only [Finset.sum_range (n := n)]

/-- The statistics of a layer of 256 activations, -/
theorem hist256_weight (idx : FVec Ideal (Sh 256 512) .bf16) (a : Fin 512 → Fin 256 → EReal)
    (ha : ∀ d l, idx (ix2 d l) = ((slot (a l) d : ℝ) : EReal)) (l : Fin 512) :
    statRow (hist256 idx) (ix3 (0 : Fin 1) (0 : Fin 1) l) = ((weight (a l) : ℝ) : EReal) :=
  trips_weight (n := 4) rfl (by decide) keeps256 idx a ha l

/-- of 128, -/
theorem hist128_weight (idx : FVec Ideal (Sh 128 512) .bf16) (a : Fin 512 → Fin 128 → EReal)
    (ha : ∀ d l, idx (ix2 d l) = ((slot (a l) d : ℝ) : EReal)) (l : Fin 512) :
    statRow (hist128 idx) (ix3 (0 : Fin 1) (0 : Fin 1) l) = ((weight (a l) : ℝ) : EReal) :=
  trips_weight (n := 2) rfl (by decide) keeps128 idx a ha l

/-- and of 32. -/
theorem hist32_weight (idx : FVec Ideal (Sh 32 512) .bf16) (a : Fin 512 → Fin 32 → EReal)
    (ha : ∀ d l, idx (ix2 d l) = ((slot (a l) d : ℝ) : EReal)) (l : Fin 512) :
    statRow (hist32 idx) (ix3 (0 : Fin 1) (0 : Fin 1) l) = ((weight (a l) : ℝ) : EReal) := by
  have h0 : (Scalar.sitofp .f32 (Scalar.muli 0#32 32#32) : Ideal .f32) = 0 := by
    show (((BitVec.toInt _ : ℤ) : ℝ) : EReal) = _
    norm_num [Scalar.muli, IntOp.muli]
  have h : ∀ r : Fin 8, hist32 idx (ix2 r l) = ((∑ i ∈ Finset.range 4, term (a l) (8 * i + r) : ℝ) : EReal) := fun r => by
    unfold hist32
    rw [bins_apply keeps32 idx a ha _ r l (word.take 4) 0 (fun i hi r => ?_) zero8 0
      (by show Ideal.ofBits .f32 0x00000000#32 = _; rw [Ideal.ofBits_zero_f32]; rfl), zero_add]
    · simp only [zero_add]; rfl
    · have hi4 : i < 4 := hi
      rw [h0, zero_add, List.getElem_take, show (word[i]'(lt_trans hi4 (by decide))) r = word[(⟨i, by omega⟩ : Fin 8)] r from rfl, word_val]
      simp
  rw [statRow_apply, Finset.sum_congr rfl fun r _ => h r, coe_sum, ← weight_eq]
  have := sum_rows (term (a l)) 4 1
  simp only [Finset.sum_range_one, Nat.mul_zero, zero_add] at this
  rw [this]

/-! ## The last layer -/

/-- The last layer's rectifier, at an entry. -/
theorem relu_apply {s : Shape} (v : FVec Ideal s .f32) (i : s.Idx) : relu v i = max (v i) 0 := by
  rw [← Ideal.ofBits_zero_f32]; rfl

/-- The logarithm of a column's softmax. -/
theorem logSoftmax_apply (h : Rows 10) (v : FVec Ideal (Sh 10 512) .f32) (d : Fin 10) (l : Fin 512) :
    logSoftmax h v (ix2 d l) = logSoft (fun d => v (ix2 d l)) d := by
  have e : ∀ d : Fin 10, broadcastTo (Sh 10 512) (colMax h v) h.bc (ix2 d l) = high fun d => v (ix2 d l) := fun d => by
    rw [down_apply, colMax_apply]
  have s : shapeCast (Sh 1 512)
        (multiReduction .add [0] Row (exp (subf v (broadcastTo (Sh 10 512) (colMax h v) h.bc))) 0x00000000#32 h.red (.inl rfl) rfl)
        h.cast (ix2 (0 : Fin 1) l) = ∑ d : Fin 10, exp (subf v (broadcastTo (Sh 10 512) (colMax h v) h.bc)) (ix2 d l) := by
    generalize exp (subf v (broadcastTo (Sh 10 512) (colMax h v) h.bc)) = u
    pointwise
  unfold logSoftmax logSoft
  rw [ValueIdx.subf_apply, ValueIdx.subf_apply, e, down_apply]
  congr 1
  refine (congrArg Ideal.log s).trans (congrArg Ideal.log (Finset.sum_congr rfl fun d _ => ?_))
  show Ideal.exp (v (ix2 d l) - broadcastTo (Sh 10 512) (colMax h v) h.bc (ix2 d l)) = _
  rw [e]

end Cert.Proof.Block
-- ==== Proof.Samples.lean ====
/-
  What the kernel's body leaves of a block of samples, sample by sample: the network's log-probabilities and the weights of its bins.
-/
module

public import proofs.«01_k».proof.Proof.Block
public import proofs.«01_k».proof.Proof.Run

@[expose] public section

set_option maxRecDepth 16384

noncomputable section

namespace Cert.Proof.Ideal

open Idealize.ShloMosaic Cert.Proof.Net Cert.Proof.Spec Cert.Proof.Block Cert.KernelIdeal Cert.KernelIdeal.Gen

/-- The blocks of the weights, and of the biases repeated for every sample, are the network's. -/
structure Carries (p : Params) (x1 : Vec Ideal S256x784 .f32) (x2 : Vec Ideal S128x256 .f32) (x3 x4 : Vec Ideal S128x128 .f32)
    (x5 : Vec Ideal S32x128 .f32) (x6 : Vec Ideal S10x32 .f32) (x7 : Vec Ideal S256x512 .f32) (x8 x9 x10 : Vec Ideal S128x512 .f32)
    (x11 : Vec Ideal S32x512 .f32) (x12 : Vec Ideal S10x512 .f32) : Prop where
  W1 : ∀ d k, x1 (ix2 d k) = p.W1 d k
  W2 : ∀ d k, x2 (ix2 d k) = p.W2 d k
  W3 : ∀ d k, x3 (ix2 d k) = p.W3 d k
  W4 : ∀ d k, x4 (ix2 d k) = p.W4 d k
  W5 : ∀ d k, x5 (ix2 d k) = p.W5 d k
  W6 : ∀ d k, x6 (ix2 d k) = p.W6 d k
  b1 : ∀ d l, x7 (ix2 d l) = p.b1 d
  b2 : ∀ d l, x8 (ix2 d l) = p.b2 d
  b3 : ∀ d l, x9 (ix2 d l) = p.b3 d
  b4 : ∀ d l, x10 (ix2 d l) = p.b4 d
  b5 : ∀ d l, x11 (ix2 d l) = p.b5 d
  b6 : ∀ d l, x12 (ix2 d l) = p.b6 d

/-- Layers of equal weights, biases and activations are equal. -/
theorem dense_congr {D K : ℕ} {W W' : Fin D → Fin K → EReal} {b b' : Fin D → EReal} {a a' : Fin K → EReal} (hW : ∀ d k, W d k = W' d k)
    (hb : ∀ d, b d = b' d) (ha : ∀ k, a k = a' k) (d : Fin D) : dense W b a d = dense W' b' a' d := by
  obtain rfl : W = W' := funext fun d => funext fun k => hW d k
  obtain rfl : b = b' := funext hb
  obtain rfl : a = a' := funext ha
  rfl

/-- A layer over columns, of a sample whose activations and biases are known. -/
theorem leaky_affine {D K : ℕ} (hu : (Sh D 512).ShapeCasts (Sh D 512)) (W : FVec Ideal (Sh D K) .f32) (a : FVec Ideal (Sh K 512) .f32)
    (b : FVec Ideal (Sh D 512) .f32) {W' : Fin D → Fin K → EReal} {b' : Fin D → EReal} {a' : Fin K → EReal} (l : Fin 512)
    (hW : ∀ d k, W (ix2 d k) = W' d k) (hb : ∀ d l, b (ix2 d l) = b' d) (ha : ∀ k, a (ix2 k l) = a' k) (d : Fin D) :
    leaky (affine (DotDims.plain D K 512) hu W a b) (ix2 d l) = layer W' b' a' d := by
  rw [leaky_apply, affine_apply]
  exact congrArg leak (dense_congr hW (fun d => hb d l) ha d)

variable {p : Params} {x0 : Vec Ideal S512x784 .f32} {x1 : Vec Ideal S256x784 .f32} {x2 : Vec Ideal S128x256 .f32}
    {x3 x4 : Vec Ideal S128x128 .f32} {x5 : Vec Ideal S32x128 .f32} {x6 : Vec Ideal S10x32 .f32} {x7 : Vec Ideal S256x512 .f32}
    {x8 x9 x10 : Vec Ideal S128x512 .f32} {x11 : Vec Ideal S32x512 .f32} {x12 : Vec Ideal S10x512 .f32}

/-- A sample of the block: a row of it. -/
def sample (x0 : Vec Ideal S512x784 .f32) (l : Fin 512) : Fin 784 → EReal := fun k => x0 (ix2 l k)

/-- The activations of the first layer, sample by sample. -/
theorem act1_apply (h : Carries p x1 x2 x3 x4 x5 x6 x7 x8 x9 x10 x11 x12) (d : Fin 256) (l : Fin 512) :
    act1 x0 x1 x7 (ix2 d l) = a1 p (sample x0 l) d := by
  refine (leaky_apply _ _).trans ((congrArg leak (affine_rows_apply _ x1 x0 x7 d l)).trans ?_)
  exact congrArg leak (dense_congr h.W1 (fun d => h.b1 d l) (fun _ => rfl) d)

/-- The activations of the second layer, sample by sample. -/
theorem act2_apply (h : Carries p x1 x2 x3 x4 x5 x6 x7 x8 x9 x10 x11 x12) (d : Fin 128) (l : Fin 512) :
    act2 (act1 x0 x1 x7) x2 x8 (ix2 d l) = a2 p (sample x0 l) d :=
  leaky_affine _ x2 _ x8 l h.W2 h.b2 (fun k => act1_apply h k l) d

/-- The activations of the third layer, sample by sample. -/
theorem act3_apply (h : Carries p x1 x2 x3 x4 x5 x6 x7 x8 x9 x10 x11 x12) (d : Fin 128) (l : Fin 512) :
    act3 (act2 (act1 x0 x1 x7) x2 x8) x3 x9 (ix2 d l) = a3 p (sample x0 l) d :=
  leaky_affine _ x3 _ x9 l h.W3 h.b3 (fun k => act2_apply h k l) d

/-- The activations of the fourth layer, sample by sample. -/
theorem act4_apply (h : Carries p x1 x2 x3 x4 x5 x6 x7 x8 x9 x10 x11 x12) (d : Fin 128) (l : Fin 512) :
    act3 (act3 (act2 (act1 x0 x1 x7) x2 x8) x3 x9) x4 x10 (ix2 d l) = a4 p (sample x0 l) d :=
  leaky_affine _ x4 _ x10 l h.W4 h.b4 (fun k => act3_apply h k l) d

/-- The activations of the fifth layer, sample by sample. -/
theorem act5_apply (h : Carries p x1 x2 x3 x4 x5 x6 x7 x8 x9 x10 x11 x12) (d : Fin 32) (l : Fin 512) :
    act5 (act3 (act3 (act2 (act1 x0 x1 x7) x2 x8) x3 x9) x4 x10) x5 x11 (ix2 d l) = a5 p (sample x0 l) d :=
  leaky_affine _ x5 _ x11 l h.W5 h.b5 (fun k => act4_apply h k l) d

/-- The block of log-probabilities, of one sample. -/
theorem probs_apply (h : Carries p x1 x2 x3 x4 x5 x6 x7 x8 x9 x10 x11 x12) (d : Fin 10) (l : Fin 512) :
    probs x0 x1 x2 x3 x4 x5 x6 x7 x8 x9 x10 x11 x12 (ix2 d l) = out p (sample x0 l) d := by
  refine (logSoftmax_apply rows10 _ d l).trans ?_
  unfold out
  congr 1
  funext d
  rw [relu_apply]
  refine congrArg (max · 0) ((affine_apply _ x6 _ x12 d l).trans ?_)
  exact dense_congr h.W6 (fun d => h.b6 d l) (fun k => act5_apply h k l) d

/-- A layer's activations, sample by sample, have the bins of their block. -/
theorem index_slots {D : ℕ} (hD : 0 < D) (hR : Rows D) {bins last : BitVec 32} (hb : Ideal.ofBits .f32 bins = ((D : ℝ) : EReal))
    (hl : Ideal.ofBits .f32 last = (((D - 1 : ℕ) : ℝ) : EReal)) {a : FVec Ideal (Sh D 512) .f32} {a' : Fin 512 → Fin D → EReal}
    (h : ∀ d l, a (ix2 d l) = a' l d) (d : Fin D) (l : Fin 512) :
    index hR bins last a (ix2 d l) = ((slot (a' l) d : ℝ) : EReal) := by
  rw [index_apply hD hR hb hl, show (fun d => a (ix2 d l)) = a' l from funext fun d => h d l]

/-- The block's five rows of statistics, of one sample. -/
theorem stats_apply (h : Carries p x1 x2 x3 x4 x5 x6 x7 x8 x9 x10 x11 x12) (r : Fin 5) (l : Fin 512) :
    stats x0 x1 x2 x3 x4 x5 x6 x7 x8 x9 x10 x11 x12 r (ix3 (0 : Fin 1) (0 : Fin 1) l)
      = ((weights p (sample x0 l) r : ℝ) : EReal) := by
  fin_cases r
  · exact hist256_weight _ (fun l => a1 p (sample x0 l)) (index_slots (by decide) rows256 bits_256 bits_255 (act1_apply h)) l
  · exact hist128_weight _ (fun l => a2 p (sample x0 l)) (index_slots (by decide) rows128 bits_128 bits_127 (act2_apply h)) l
  · exact hist128_weight _ (fun l => a3 p (sample x0 l)) (index_slots (by decide) rows128 bits_128 bits_127 (act3_apply h)) l
  · exact hist128_weight _ (fun l => a4 p (sample x0 l)) (index_slots (by decide) rows128 bits_128 bits_127 (act4_apply h)) l
  · exact hist32_weight _ (fun l => a5 p (sample x0 l)) (index_slots (by decide) rows32 bits_32 bits_31 (act5_apply h)) l

end Cert.Proof.Ideal
-- ==== Proof.Arrays.lean ====
/-
  The arrays of the kernel's pipeline: every input's block in the arguments as launched, and what the two result arrays hold after the
  run, sample by sample.
-/
module

public import proofs.«01_k».proof.Proof.Samples
public import proofs.«01_k».proof.Proof.Points
public import Idealize.ShloMosaic.Lib.Pipeline.Value
public import Idealize.ShloMosaic.Lib.StableHlo.Run

@[expose] public section

set_option maxRecDepth 16384

noncomputable section

namespace Cert.Proof.Ideal

open Idealize.ShloMosaic Idealize.ShloMosaic.TcCoe Idealize.SL.Sem
open Cert.Proof.Net Cert.Proof.Spec Cert.Proof.Block Cert.KernelIdeal Cert.KernelIdeal.Gen

variable (m : (ℓ : Loc nD τ sig) → Buf (Elt Ideal) ℓ) (c : Dev nD)

/-- The network of a core's arguments. -/
def net : Params :=
  Params.of (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11)) (m ((c.tc : Thread nD τ).loc main_arg12))

/-- The samples of a core's arguments. -/
def batch : Fin 65536 → Fin 784 → EReal := samples (m ((c.tc : Thread nD τ).loc main_arg0))

/-! ## The inputs' blocks -/

/-- The block indices at a grid point: the point's number along the samples, zero elsewhere. -/
theorem index0 : ∀ t : Fin cfg0.N, win0_0.index t (0 : Fin 2) = t.val ∧ win0_0.index t (1 : Fin 2) = 0 :=
  (by decide +kernel : ∀ t : Fin grid0.N, _)
/-- The block index of the log-probabilities' array: zero along the classes, the point's number along the samples. -/
theorem index13 : ∀ t : Fin cfg0.N, win0_13.index t (0 : Fin 2) = 0 ∧ win0_13.index t (1 : Fin 2) = t.val :=
  (by decide +kernel : ∀ t : Fin grid0.N, _)
/-- The block index of the statistics' array: the point's number, and zero elsewhere. -/
theorem index14 : ∀ t : Fin cfg0.N,
    win0_14.index t (0 : Fin 3) = t.val ∧ win0_14.index t (1 : Fin 3) = 0 ∧ win0_14.index t (2 : Fin 3) = 0 :=
  (by decide +kernel : ∀ t : Fin grid0.N, _)

/-- The sample at row `l` of grid point `t`'s block. -/
def atPoint (t : Fin cfg0.N) (l : Fin 512) : Fin 65536 := ⟨t.val * 512 + l.val, by have : t.val < 128 := t.isLt; omega⟩

/-- Where an entry of the samples' block stands in their array. -/
theorem emb0 (t : Fin cfg0.N) (l : Fin 512) (k : Fin 784) :
    ((cfg0.win 0).blk t).view.emb (ix2 l k) = (ix2 (atPoint t l) k : S65536x784.Idx) := by
  obtain ⟨e0, e1⟩ := index0 t
  funext a; apply Fin.ext
  match a with
  | ⟨0, _⟩ => show win0_0.index t (0 : Fin 2) * 512 + 1 * l.val = t.val * 512 + l.val; omega
  | ⟨1, _⟩ => show win0_0.index t (1 : Fin 2) * 784 + 1 * k.val = k.val; omega

/-- A row of the samples' block is a sample of the batch. -/
theorem iblk0 (t : Fin cfg0.N) (l : Fin 512) : sample (iblk m c 0 t) l = batch m c (atPoint t l) := by
  funext k
  show V m c main_arg0 (((cfg0.win 0).blk t).view.emb (ix2 l k)) = _
  rw [emb0, V_main_arg0]
  rfl

/-- A block at index zero on every axis is read where it lies in the array. -/
theorem iblk_whole (w : Fin cfg0.W) (t : Fin cfg0.N) (h : ∀ a, (cfg0.win w).index t a = 0)
    (y : ((cfg0.win w).xblock (cfg0.grid.coords t)).Idx) (j : (cfg0.win w).shape.Idx) (hj : ∀ a, (j a : ℕ) = y a) :
    (((cfg0.win w).rect t).emb y) = j :=
  funext fun a => Fin.ext (((cfg0.win w).rect_emb_val_of_index_zero t a (h a) y).trans (hj a).symm)

/-- The weights and biases are each one block. -/
theorem index_whole : ∀ w : Fin cfg0.W, 1 ≤ w.val → w.val ≤ 12 → ∀ t a, (cfg0.win w).index t a = 0 :=
  (by decide +kernel : ∀ w : Fin 15, 1 ≤ w.val → w.val ≤ 12 → ∀ (t : Fin grid0.N) a, (cfg0.win w).index t a = 0)

/-- The weights' windows read the weights as launched. -/
theorem iblk_w1 (t : Fin cfg0.N) : iblk m c 1 t = m ((c.tc : Thread nD τ).loc main_arg1) := by
  rw [← V_main_arg1 m c]
  exact funext fun j => congrArg (V m c main_arg1) (iblk_whole 1 t (index_whole 1 (by decide) (by decide) t) j j fun _ => rfl)
/-- The block of the second layer's weights is their whole array. -/
theorem iblk_w2 (t : Fin cfg0.N) : iblk m c 2 t = m ((c.tc : Thread nD τ).loc main_arg3) := by
  rw [← V_main_arg3 m c]
  exact funext fun j => congrArg (V m c main_arg3) (iblk_whole 2 t (index_whole 2 (by decide) (by decide) t) j j fun _ => rfl)
/-- The block of the third layer's weights is their whole array. -/
theorem iblk_w3 (t : Fin cfg0.N) : iblk m c 3 t = m ((c.tc : Thread nD τ).loc main_arg5) := by
  rw [← V_main_arg5 m c]
  exact funext fun j => congrArg (V m c main_arg5) (iblk_whole 3 t (index_whole 3 (by decide) (by decide) t) j j fun _ => rfl)
/-- The block of the fourth layer's weights is their whole array. -/
theorem iblk_w4 (t : Fin cfg0.N) : iblk m c 4 t = m ((c.tc : Thread nD τ).loc main_arg7) := by
  rw [← V_main_arg7 m c]
  exact funext fun j => congrArg (V m c main_arg7) (iblk_whole 4 t (index_whole 4 (by decide) (by decide) t) j j fun _ => rfl)
/-- The block of the fifth layer's weights is their whole array. -/
theorem iblk_w5 (t : Fin cfg0.N) : iblk m c 5 t = m ((c.tc : Thread nD τ).loc main_arg9) := by
  rw [← V_main_arg9 m c]
  exact funext fun j => congrArg (V m c main_arg9) (iblk_whole 5 t (index_whole 5 (by decide) (by decide) t) j j fun _ => rfl)
/-- The block of the sixth layer's weights is their whole array. -/
theorem iblk_w6 (t : Fin cfg0.N) : iblk m c 6 t = m ((c.tc : Thread nD τ).loc main_arg11) := by
  rw [← V_main_arg11 m c]
  exact funext fun j => congrArg (V m c main_arg11) (iblk_whole 6 t (index_whole 6 (by decide) (by decide) t) j j fun _ => rfl)

/-- The biases' windows read the biases laid along the lanes. -/
theorem iblk_b1 (t : Fin cfg0.N) (d : Fin 256) (l : Fin 512) :
    iblk m c 7 t (ix2 d l) = m ((c.tc : Thread nD τ).loc main_arg2) (ix1 d) := by
  refine (congrArg (V m c main_call0_v1) (iblk_whole 7 t (index_whole 7 (by decide) (by decide) t) (ix2 d l) (ix2 d l) fun _ => rfl)).trans ?_
  have h : V m c main_call0_v1 = broadcastInDim S256x512 ![0, 1] bcast_S256x1_S256x512_0_1
      (broadcastInDim S256x1 ![0] bcast_S256_S256x1_0 (m ((c.tc : Thread nD τ).loc main_arg2))) := by
    after_results
    rfl
  rw [h]
  pointwise
/-- The block of the second layer's biases holds each bias in a row. -/
theorem iblk_b2 (t : Fin cfg0.N) (d : Fin 128) (l : Fin 512) :
    iblk m c 8 t (ix2 d l) = m ((c.tc : Thread nD τ).loc main_arg4) (ix1 d) := by
  refine (congrArg (V m c main_call0_v3) (iblk_whole 8 t (index_whole 8 (by decide) (by decide) t) (ix2 d l) (ix2 d l) fun _ => rfl)).trans ?_
  have h : V m c main_call0_v3 = broadcastInDim S128x512 ![0, 1] bcast_S128x1_S128x512_0_1
      (broadcastInDim S128x1 ![0] bcast_S128_S128x1_0 (m ((c.tc : Thread nD τ).loc main_arg4))) := by
    after_results
    rfl
  rw [h]
  pointwise
/-- The block of the third layer's biases holds each bias in a row. -/
theorem iblk_b3 (t : Fin cfg0.N) (d : Fin 128) (l : Fin 512) :
    iblk m c 9 t (ix2 d l) = m ((c.tc : Thread nD τ).loc main_arg6) (ix1 d) := by
  refine (congrArg (V m c main_call0_v5) (iblk_whole 9 t (index_whole 9 (by decide) (by decide) t) (ix2 d l) (ix2 d l) fun _ => rfl)).trans ?_
  have h : V m c main_call0_v5 = broadcastInDim S128x512 ![0, 1] bcast_S128x1_S128x512_0_1
      (broadcastInDim S128x1 ![0] bcast_S128_S128x1_0 (m ((c.tc : Thread nD τ).loc main_arg6))) := by
    after_results
    rfl
  rw [h]
  pointwise
/-- The block of the fourth layer's biases holds each bias in a row. -/
theorem iblk_b4 (t : Fin cfg0.N) (d : Fin 128) (l : Fin 512) :
    iblk m c 10 t (ix2 d l) = m ((c.tc : Thread nD τ).loc main_arg8) (ix1 d) := by
  refine (congrArg (V m c main_call0_v7) (iblk_whole 10 t (index_whole 10 (by decide) (by decide) t) (ix2 d l) (ix2 d l) fun _ => rfl)).trans ?_
  have h : V m c main_call0_v7 = broadcastInDim S128x512 ![0, 1] bcast_S128x1_S128x512_0_1
      (broadcastInDim S128x1 ![0] bcast_S128_S128x1_0 (m ((c.tc : Thread nD τ).loc main_arg8))) := by
    after_results
    rfl
  rw [h]
  pointwise
/-- The block of the fifth layer's biases holds each bias in a row. -/
theorem iblk_b5 (t : Fin cfg0.N) (d : Fin 32) (l : Fin 512) :
    iblk m c 11 t (ix2 d l) = m ((c.tc : Thread nD τ).loc main_arg10) (ix1 d) := by
  refine (congrArg (V m c main_call0_v9) (iblk_whole 11 t (index_whole 11 (by decide) (by decide) t) (ix2 d l) (ix2 d l) fun _ => rfl)).trans ?_
  have h : V m c main_call0_v9 = broadcastInDim S32x512 ![0, 1] bcast_S32x1_S32x512_0_1
      (broadcastInDim S32x1 ![0] bcast_S32_S32x1_0 (m ((c.tc : Thread nD τ).loc main_arg10))) := by
    after_results
    rfl
  rw [h]
  pointwise
/-- The block of the sixth layer's biases holds each bias in a row. -/
theorem iblk_b6 (t : Fin cfg0.N) (d : Fin 10) (l : Fin 512) :
    iblk m c 12 t (ix2 d l) = m ((c.tc : Thread nD τ).loc main_arg12) (ix1 d) := by
  refine (congrArg (V m c main_call0_v11) (iblk_whole 12 t (index_whole 12 (by decide) (by decide) t) (ix2 d l) (ix2 d l) fun _ => rfl)).trans ?_
  have h : V m c main_call0_v11 = broadcastInDim S10x512 ![0, 1] bcast_S10x1_S10x512_0_1
      (broadcastInDim S10x1 ![0] bcast_S10_S10x1_0 (m ((c.tc : Thread nD τ).loc main_arg12))) := by
    after_results
    rfl
  rw [h]
  pointwise

/-- So at every grid point the twelve blocks carry the core's network. -/
theorem carries (t : Fin cfg0.N) : Carries (net m c) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) where
  W1 d k := congrFun (iblk_w1 m c t) _
  W2 d k := congrFun (iblk_w2 m c t) _
  W3 d k := congrFun (iblk_w3 m c t) _
  W4 d k := congrFun (iblk_w4 m c t) _
  W5 d k := congrFun (iblk_w5 m c t) _
  W6 d k := congrFun (iblk_w6 m c t) _
  b1 d l := iblk_b1 m c t d l
  b2 d l := iblk_b2 m c t d l
  b3 d l := iblk_b3 m c t d l
  b4 d l := iblk_b4 m c t d l
  b5 d l := iblk_b5 m c t d l
  b6 d l := iblk_b6 m c t d l

/-- What the body leaves of a sample: its ten log-probabilities, -/
theorem probsAt_apply (t : Fin cfg0.N) (d : Fin 10) (l : Fin 512) :
    probsAt m c t (ix2 d l) = out (net m c) (batch m c (atPoint t l)) d := by
  rw [← iblk0]
  exact probs_apply (carries m c t) d l

/-- and its five weights. -/
theorem statsAt_apply (t : Fin cfg0.N) {X : Vec Ideal S1x8x512 .f32} (hX : StatsAt m c t X) (r : Fin 5) (l : Fin 512) :
    X (ix3 (0 : Fin 1) (r.castLE (by decide) : Fin 8) l) = ((weights (net m c) (batch m c (atPoint t l)) r : ℝ) : EReal) := by
  rw [← iblk0]
  exact (hX r l).trans (stats_apply (carries m c t) r l)

/-! ## The result arrays -/

/-- Where an entry of the log-probabilities' block stands in their array. -/
theorem emb13 (t : Fin cfg0.N) (d : Fin 10) (l : Fin 512) :
    ((cfg0.win 13).blk t).view.emb (ix2 d l) = (ix2 d (atPoint t l) : S10x65536.Idx) := by
  obtain ⟨e0, e1⟩ := index13 t
  funext a; apply Fin.ext
  match a with
  | ⟨0, _⟩ => show win0_13.index t (0 : Fin 2) * 10 + 1 * d.val = d.val; omega
  | ⟨1, _⟩ => show win0_13.index t (1 : Fin 2) * 512 + 1 * l.val = t.val * 512 + l.val; omega

/-- Where an entry of the statistics' block stands in their array. -/
theorem emb14 (t : Fin cfg0.N) (r : Fin 8) (l : Fin 512) :
    ((cfg0.win 14).blk t).view.emb (ix3 (0 : Fin 1) r l) = (ix3 (t : Fin 128) r l : S128x8x512.Idx) := by
  obtain ⟨e0, e1, e2⟩ := index14 t
  funext a; apply Fin.ext
  match a with
  | ⟨0, _⟩ => show win0_14.index t (0 : Fin 3) * 1 + 1 * 0 = t.val; omega
  | ⟨1, _⟩ => show win0_14.index t (1 : Fin 3) * 8 + 1 * r.val = r.val; omega
  | ⟨2, _⟩ => show win0_14.index t (2 : Fin 3) * 512 + 1 * l.val = l.val; omega

/-- The arrays after the run: of every sample, its ten log-probabilities in the first and its five weights in the second. -/
theorem arrays_apply (A : (w : Fin cfg0.W) → Buf (Elt Ideal) ((spec0 w).arr.view.loc (c.tc : Thread nD τ)))
    (hA : ∀ w, (rdats m c).ArrAt w cfg0.N (A w)) :
    (∀ (d : Fin 10) (b : Fin 65536), A 13 (ix2 d b : S10x65536.Idx) = out (net m c) (batch m c b) d)
    ∧ (∀ (r : Fin 5) (t : Fin 128) (l : Fin 512), A 14 (ix3 t (r.castLE (by decide) : Fin 8) l : S128x8x512.Idx)
        = ((weights (net m c) (batch m c (atPoint t l)) r : ℝ) : EReal)) := by
  obtain ⟨after, hL, hE⟩ := Pipeline.RDat.ArrAt.exists_exact_all hA
  have h13 : ∀ u, after 13 u = probsAt m c u := fun u => by
    obtain ⟨Y, -, h⟩ := hL 13 u u.isLt (flush0_13 u)
    rw [show (rdats m c).after 13 = (dats m 0 c).toR.after 13 from (dats m 0 c).toRRel_after_of_eq_false rfl] at h
    exact h.trans (after0_13 m c u)
  have h14 : ∀ u, StatsAt m c u (after 14 u) := fun u =>
    (dats m 0 c).toRRel_leaves (w := 14) rfl (hL 14 u u.isLt (flush0_14 u))
  constructor
  · intro d b
    rw [hE 13]
    refine congrFun (((rdats m c).withAfter after).arrAt_eq_of_covers 13
      (fun i : S10x65536.Idx => out (net m c) (batch m c (i 1)) (i 0)) (by decide +kernel) (fun t hf y => ?_)) (ix2 d b)
    obtain ⟨d', l, rfl⟩ : ∃ (d' : Fin 10) (l : Fin 512), y = (ix2 d' l : S10x512.Idx) := ⟨y 0, y 1, eq_ix2 y⟩
    rw [emb13]
    exact (congrFun (h13 t) (ix2 d' l)).trans (probsAt_apply m c t d' l)
  · intro r t l
    rw [hE 14]
    refine ((rdats m c).withAfter after).arrAt_forall_of_covers 14
      (fun (i : S128x8x512.Idx) v => ∀ r : Fin 5, i 1 = r.castLE (by decide) →
        v = ((weights (net m c) (batch m c (atPoint (i 0) (i 2))) r : ℝ) : EReal)) (by decide +kernel) (fun t hf y r hr => ?_)
      (ix3 t (r.castLE (by decide) : Fin 8) l) (by exact Memref.isWhole_whole _) r rfl
    obtain ⟨z, s, l, rfl⟩ : ∃ (z : Fin 1) (s : Fin 8) (l : Fin 512), y = (ix3 z s l : S1x8x512.Idx) := ⟨y 0, y 1, y 2, eq_ix3 y⟩
    obtain rfl : z = 0 := Subsingleton.elim _ _
    rw [emb14] at hr ⊢
    obtain rfl : s = r.castLE (by decide) := hr
    exact statsAt_apply m c t (h14 t) r l

end Cert.Proof.Ideal
-- ==== Proof.Tail.lean ====
/-
  The host lines after the region: what they make of the two result arrays.
-/
module

public import proofs.«01_k».proof.Proof.Arrays
public import proofs.«01_k».proof.Proof.Frames

@[expose] public section

set_option maxRecDepth 16384

noncomputable section

namespace Cert.Proof.Ideal

open Idealize.ShloMosaic Idealize.ShloMosaic.TcCoe Idealize.SL.Sem
open Cert.Proof.Net Cert.Proof.Spec Cert.Proof.Block Cert.KernelIdeal Cert.KernelIdeal.Gen

/-- The row sums of the statistics' array, over grid points and lanes. -/
def rowSums (hs : FVec Ideal S128x8x512 .f32) : FVec Ideal S8 .f32 :=
  Host.reduceAdd hs (constant S_ .f32 0x00000000#32) reducesTo_S128x8x512_S8_d0_2 h_S_

/-- The entropy of a layer with `D` activations, of the sum of its row. -/
def entropyTerm (D : BitVec 32) (s : FVec Ideal S1 .f32) : FVec Ideal S_ .f32 :=
  subf (mulf (constant S_ .f32 0x40000000#32) (Host.log (constant S_ .f32 D)))
    (Host.divf (shapeCast S_ s shapeCasts_S1_S_) (mulf (constant S_ .f32 D) (constant S_ .f32 0x47800000#32)))

section
variable (W : Valuation τ sig (Elt Ideal))

set_option maxHeartbeats 0 in
/-- What the host lines leave in each result's buffer. -/
theorem tail0 : StableHlo.after (List.flatten [hostOps1 (F := Ideal)]) W (Proc.devRef .tc main_v0_0)
    = transpose S65536x10 [1, 0] (W (Proc.devRef .tc main_call0_v12_0)) transposes_S10x65536_S65536x10_1_0 := by
  rw [List.flatten_cons, List.flatten_nil, List.append_nil, hostOps1]
  after_results_simp
  rfl

set_option maxHeartbeats 0 in
/-- The same of result 1: an entropy off the sum of a row. -/
theorem tail1 : StableHlo.after (List.flatten [hostOps1 (F := Ideal)]) W (Proc.devRef .tc main_v0_1)
    = entropyTerm 0x43800000#32 (extractStridedSlice S1 ![0] (rowSums (W (Proc.devRef .tc main_call0_v12_1))) slices_S8_S1_0) := by
  rw [List.flatten_cons, List.flatten_nil, List.append_nil, hostOps1]
  after_results_simp
  rfl

set_option maxHeartbeats 0 in
/-- The same of result 2: an entropy off the sum of a row. -/
theorem tail2 : StableHlo.after (List.flatten [hostOps1 (F := Ideal)]) W (Proc.devRef .tc main_v0_2)
    = entropyTerm 0x43000000#32 (extractStridedSlice S1 ![1] (rowSums (W (Proc.devRef .tc main_call0_v12_1))) slices_S8_S1_1) := by
  rw [List.flatten_cons, List.flatten_nil, List.append_nil, hostOps1]
  after_results_simp
  rfl

set_option maxHeartbeats 0 in
/-- The same of result 3: an entropy off the sum of a row. -/
theorem tail3 : StableHlo.after (List.flatten [hostOps1 (F := Ideal)]) W (Proc.devRef .tc main_v0_3)
    = entropyTerm 0x43000000#32 (extractStridedSlice S1 ![2] (rowSums (W (Proc.devRef .tc main_call0_v12_1))) slices_S8_S1_2) := by
  rw [List.flatten_cons, List.flatten_nil, List.append_nil, hostOps1]
  after_results_simp
  rfl

set_option maxHeartbeats 0 in
/-- The same of result 4: an entropy off the sum of a row. -/
theorem tail4 : StableHlo.after (List.flatten [hostOps1 (F := Ideal)]) W (Proc.devRef .tc main_v0_4)
    = entropyTerm 0x43000000#32 (extractStridedSlice S1 ![3] (rowSums (W (Proc.devRef .tc main_call0_v12_1))) slices_S8_S1_3) := by
  rw [List.flatten_cons, List.flatten_nil, List.append_nil, hostOps1]
  after_results_simp
  rfl

set_option maxHeartbeats 0 in
/-- The same of result 5: an entropy off the sum of a row. -/
theorem tail5 : StableHlo.after (List.flatten [hostOps1 (F := Ideal)]) W (Proc.devRef .tc main_v0_5)
    = entropyTerm 0x42000000#32 (extractStridedSlice S1 ![4] (rowSums (W (Proc.devRef .tc main_call0_v12_1))) slices_S8_S1_4) := by
  rw [List.flatten_cons, List.flatten_nil, List.append_nil, hostOps1]
  after_results_simp
  rfl

end

/-- The logarithm of a positive real. -/
theorem log_coe_pos {r : ℝ} (h : 0 < r) : Ideal.log (r : EReal) = (Real.log r : EReal) := if_neg (not_le.mpr h)

/-- The sum of a row, over grid points and lanes. -/
theorem rowSums_apply (hs : FVec Ideal S128x8x512 .f32) (r : Fin 8) :
    rowSums hs (ix1 r) = ∑ t : Fin 128, ∑ l : Fin 512, hs (ix3 t r l) := by
  pointwise [rowSums]
  refine (zero_add _).trans ((Finset.sum_filter_eq_sum_of_fiber _ (fun k : Fin 128 × Fin 512 => (ix3 k.1 r k.2 : S128x8x512.Idx))
    (fun _ _ e => Prod.ext (congrFun e 0) (congrFun e 2)) (fun i => ?_) hs).trans (Fintype.sum_prod_type _))
  constructor
  · intro e
    refine ⟨(i 0, i 2), ?_⟩
    funext a; apply Fin.ext
    match a with
    | ⟨0, _⟩ => rfl
    | ⟨1, _⟩ => exact (congrArg Fin.val (congrFun e 0)).symm
    | ⟨2, _⟩ => rfl
  · rintro ⟨k, rfl⟩
    funext b
    match b with
    | ⟨0, _⟩ => rfl

/-- Over grid points and lanes is over the samples. -/
theorem sum_points (f : Fin 65536 → ℝ) : ∑ t : Fin 128, ∑ l : Fin 512, f (atPoint t l) = ∑ b, f b := by
  rw [← Fintype.sum_prod_type']
  refine Fintype.sum_equiv (finProdFinEquiv (m := 128) (n := 512)) _ _ fun k => congrArg f (Fin.ext ?_)
  show k.1.val * 512 + k.2.val = k.2.val + 512 * k.1.val
  omega

/-- The entropy of a layer off the sum of its weights. -/
theorem entropyTerm_apply {D : ℕ} (hD : 0 < D) {w : BitVec 32} (hw : Ideal.ofBits .f32 w = ((D : ℝ) : EReal)) (s : FVec Ideal S1 .f32)
    (f : Fin 65536 → ℝ) (hs : s (ix1 0) = ((∑ b, f b : ℝ) : EReal)) : entropyTerm w s = fun _ => entropy D f := by
  funext j
  obtain rfl : j = ix0 := Subsingleton.elim _ _
  have hD' : (0 : ℝ) < D := by exact_mod_cast hD
  pointwise [entropyTerm]
  rw [hw, hs, bits_2, bits_65536, log_coe_pos hD', ← EReal.coe_mul, ← EReal.coe_mul, Ideal.div_coe (by positivity),
    ← EReal.coe_mul, ← EReal.coe_sub, mul_one_div]
  rfl

/-- What the host lines make of such arrays: the five entropies, -/
theorem entropyTerm_row (p : Params) (xs : Fin 65536 → Fin 784 → EReal) {D : ℕ} (hD : 0 < D) {w : BitVec 32}
    (hw : Ideal.ofBits .f32 w = ((D : ℝ) : EReal)) (hs : FVec Ideal S128x8x512 .f32) (i : Fin 5)
    (h : ∀ (t : Fin 128) (l : Fin 512), hs (ix3 t (i.castLE (by decide) : Fin 8) l) = ((weights p (xs (atPoint t l)) i : ℝ) : EReal))
    (s : FVec Ideal S1 .f32) (hsl : s (ix1 0) = rowSums hs (ix1 (i.castLE (by decide)))) :
    entropyTerm w s = layerEntropy p xs D i :=
  entropyTerm_apply hD hw s _ (by
    rw [hsl, rowSums_apply]
    simp only [h, coe_sum]
    exact congrArg _ (sum_points fun b => weights p (xs b) i))

/-- and the log-probabilities. -/
theorem transposed_eq (p : Params) (xs : Fin 65536 → Fin 784 → EReal) (o : FVec Ideal S10x65536 .f32)
    (h : ∀ (d : Fin 10) (b : Fin 65536), o (ix2 d b) = out p (xs b) d) :
    transpose S65536x10 [1, 0] o transposes_S10x65536_S65536x10_1_0 = logProbs p xs := by
  funext j
  obtain ⟨b, d, rfl⟩ : ∃ (b : Fin 65536) (d : Fin 10), j = (ix2 b d : S65536x10.Idx) := ⟨j 0, j 1, eq_ix2 j⟩
  pointwise
  exact h d b

/-! ## The results of the run -/

/-- The six results' buffers. -/
def outputs : List (Ref sig .tc) := [main_v0_0, main_v0_1, main_v0_2, main_v0_3, main_v0_4, main_v0_5]

/-- They bypass the pipeline. -/
theorem outputs_rest : ∀ b ∈ outputs, b ∈ Pipeline.restRefs sig spec0 \ ∅ := fun b hb => by
  have h : (∀ w, Pipeline.arrRef spec0 w ≠ b) ∧ b.isScoped = false := by revert b; decide
  exact Finset.mem_sdiff.mpr ⟨Pipeline.mem_restRefs_of b h.2 h.1, Finset.notMem_empty b⟩

variable (m : (ℓ : Loc nD τ sig) → Buf (Elt Ideal) ℓ) (ρ : Dev nD → PrngReg)

set_option maxHeartbeats 0 in
/-- What the run leaves in them: the log-probabilities and the five entropies. -/
theorem results (r : PUnit × MemSt nD τ sig (Elt Ideal)) (h : TailPost cfgs 0 (rdats m) (V0 m) [hostOps1] r) (c : Dev nD) :
    r.2.mem ((c.tc : Thread nD τ).loc main_v0_0) = logProbs (net m c) (batch m c)
    ∧ r.2.mem ((c.tc : Thread nD τ).loc main_v0_1) = layerEntropy (net m c) (batch m c) 256 0
    ∧ r.2.mem ((c.tc : Thread nD τ).loc main_v0_2) = layerEntropy (net m c) (batch m c) 128 1
    ∧ r.2.mem ((c.tc : Thread nD τ).loc main_v0_3) = layerEntropy (net m c) (batch m c) 128 2
    ∧ r.2.mem ((c.tc : Thread nD τ).loc main_v0_4) = layerEntropy (net m c) (batch m c) 128 3
    ∧ r.2.mem ((c.tc : Thread nD τ).loc main_v0_5) = layerEntropy (net m c) (batch m c) 32 4 := by
  obtain ⟨-, A, hA, hr⟩ := h c
  obtain ⟨h13, h14⟩ := arrays_apply m c A hA
  have e13 : Pipeline.withArrays spec0 c (V0 m c) A (Proc.devRef .tc main_call0_v12_0) = A 13 :=
    Pipeline.withArrays_arr spec0 launch0.win.arr_inj c (V0 m c) A 13
  have e14 : Pipeline.withArrays spec0 c (V0 m c) A (Proc.devRef .tc main_call0_v12_1) = A 14 :=
    Pipeline.withArrays_arr spec0 launch0.win.arr_inj c (V0 m c) A 14
  refine ⟨?_, ?_, ?_, ?_, ?_, ?_⟩
  · rw [hr _ (outputs_rest main_v0_0 (by decide)), tail0, e13]
    exact transposed_eq _ _ _ h13
  · rw [hr _ (outputs_rest main_v0_1 (by decide)), tail1, e14]
    exact entropyTerm_row _ _ (by decide) bits_256 _ 0 (h14 0) _ (by pointwise; rfl)
  · rw [hr _ (outputs_rest main_v0_2 (by decide)), tail2, e14]
    exact entropyTerm_row _ _ (by decide) bits_128 _ 1 (h14 1) _ (by pointwise; rfl)
  · rw [hr _ (outputs_rest main_v0_3 (by decide)), tail3, e14]
    exact entropyTerm_row _ _ (by decide) bits_128 _ 2 (h14 2) _ (by pointwise; rfl)
  · rw [hr _ (outputs_rest main_v0_4 (by decide)), tail4, e14]
    exact entropyTerm_row _ _ (by decide) bits_128 _ 3 (h14 3) _ (by pointwise; rfl)
  · rw [hr _ (outputs_rest main_v0_5 (by decide)), tail5, e14]
    exact entropyTerm_row _ _ (by decide) bits_32 _ 4 (h14 4) _ (by pointwise; rfl)

end Cert.Proof.Ideal
-- ==== Proof.RefLayer.lean ====
/-
  The reference's layer, read sample by sample: its activations, their bins, the bins' counts by a scattered sum, and the mean entropy.
  Every statement is at any number of activations.
-/
module

public import proofs.«01_k».proof.Proof.Block
public import Idealize.ShloMosaic.Lib.StackMember
public import Idealize.ShloMosaic.Lib.WordArith

@[expose] public section

set_option maxRecDepth 16384

noncomputable section

namespace Cert.Proof.RefLayer

open Idealize.ShloMosaic
open Cert.Proof.Spec Cert.Proof.Block

/-- The shapes: a scalar, one value per sample, a column of them, and one row of `D` values per sample. -/
abbrev S0 : Shape := ⟨0, ![]⟩
abbrev Each : Shape := ⟨1, ![65536]⟩
abbrev Col : Shape := ⟨2, ![65536, 1]⟩
abbrev Rows (D : ℕ) : Shape := ⟨2, ![65536, D]⟩
abbrev Flat (N : ℕ) : Shape := ⟨1, ![N]⟩

variable {D K N : ℕ}

/-- One row of values laid under every sample. -/
theorem under_apply (b : FVec Ideal ⟨1, ![D]⟩ .f32) (h1 : (⟨1, ![D]⟩ : Shape).BroadcastsInDim ⟨2, ![1, D]⟩ ![1])
    (h2 : (⟨2, ![1, D]⟩ : Shape).BroadcastsInDim (Rows D) ![0, 1]) (i : Fin 65536) (d : Fin D) :
    broadcastInDim (Rows D) ![0, 1] h2 (broadcastInDim ⟨2, ![1, D]⟩ ![1] h1 b) (ix2 i d) = b (ix1 d) := by
  unfold broadcastInDim
  refine congrArg b (funext fun a => ?_)
  obtain rfl : a = 0 := Subsingleton.elim _ _
  apply Fin.ext
  by_cases h : D = 1
  · subst h
    exact (Nat.lt_one_iff.mp (Fin.isLt _)).trans (Nat.lt_one_iff.mp d.isLt).symm
  · simp [h]

/-- The affine map of every sample. -/
theorem affine_apply (x : FVec Ideal (Rows K) .f32) (W : FVec Ideal ⟨2, ![D, K]⟩ .f32) (b : FVec Ideal ⟨1, ![D]⟩ .f32)
    (ht : (⟨2, ![D, K]⟩ : Shape).Transposes [1, 0] ⟨2, ![K, D]⟩) (h1 : (⟨1, ![D]⟩ : Shape).BroadcastsInDim ⟨2, ![1, D]⟩ ![1])
    (h2 : (⟨2, ![1, D]⟩ : Shape).BroadcastsInDim (Rows D) ![0, 1]) (i : Fin 65536) (d : Fin D) :
    addf (Host.dotGeneral (DotDims.plain 65536 K D) none x (transpose ⟨2, ![K, D]⟩ [1, 0] W ht))
        (broadcastInDim (Rows D) ![0, 1] h2 (broadcastInDim ⟨2, ![1, D]⟩ ![1] h1 b)) (ix2 i d)
      = dense (fun d k => W (ix2 d k)) (fun d => b (ix1 d)) (fun k => x (ix2 i k)) d := by
  show Host.dotGeneral _ none x _ (ix2 i d) + broadcastInDim _ _ h2 _ (ix2 i d) = _
  rw [under_apply, ix2_eq_valueIdx, StackMember.dotGeneral_plain_apply]
  unfold dense
  refine congrArg (· + _) (Finset.sum_congr rfl fun k _ => ?_)
  rw [mul_comm]
  refine congrArg (· * _) ?_
  unfold transpose
  refine congrArg W (funext fun a => ?_)
  fin_cases a <;> rfl

/-- The rectifier. -/
theorem leaky_apply (z : FVec Ideal (Rows D) .f32) (h : S0.BroadcastsInDim (Rows D) ![]) (i : Fin 65536) (d : Fin D) :
    select (cmpf .oge z (broadcastInDim (Rows D) ![] h (constant S0 .f32 0x00000000#32))) z
        (mulf (broadcastInDim (Rows D) ![] h (id (constant S0 .f32 0x3C23D70A#32))) z) (ix2 i d)
      = leak (z (ix2 i d)) := by
  unfold leak
  pointwise
  rfl

/-- A layer's activations off the ones before it. -/
theorem layer_apply {x : FVec Ideal (Rows K) .f32} {a : Fin 65536 → Fin K → EReal} (hx : ∀ i k, x (ix2 i k) = a i k)
    (W : FVec Ideal ⟨2, ![D, K]⟩ .f32) (b : FVec Ideal ⟨1, ![D]⟩ .f32)
    (ht : (⟨2, ![D, K]⟩ : Shape).Transposes [1, 0] ⟨2, ![K, D]⟩) (h1 : (⟨1, ![D]⟩ : Shape).BroadcastsInDim ⟨2, ![1, D]⟩ ![1])
    (h2 : (⟨2, ![1, D]⟩ : Shape).BroadcastsInDim (Rows D) ![0, 1]) (h : S0.BroadcastsInDim (Rows D) ![])
    {z v : FVec Ideal (Rows D) .f32}
    (hz : z = addf (Host.dotGeneral (DotDims.plain 65536 K D) none x (transpose ⟨2, ![K, D]⟩ [1, 0] W ht))
        (broadcastInDim (Rows D) ![0, 1] h2 (broadcastInDim ⟨2, ![1, D]⟩ ![1] h1 b)))
    (hv : v = select (cmpf .oge z (broadcastInDim (Rows D) ![] h (constant S0 .f32 0x00000000#32))) z
        (mulf (broadcastInDim (Rows D) ![] h (id (constant S0 .f32 0x3C23D70A#32))) z)) (i : Fin 65536) (d : Fin D) :
    v (ix2 i d) = layer (fun d k => W (ix2 d k)) (fun d => b (ix1 d)) (a i) d := by
  rw [hv, leaky_apply, hz, affine_apply]
  exact congrArg (fun t => leak (dense _ _ t d)) (funext (hx i))

/-- The least entry of every row. -/
theorem low_apply (v : FVec Ideal (Rows D) .f32) (hb : Each.BroadcastsInDim Col ![0]) (hr : (Rows D).ReducesTo [1] Each)
    (hu : 0 < S0.numel) (i : Fin 65536) :
    broadcastInDim Col ![0] hb (Host.reduce FloatOps.minimumf v (constant S0 .f32 0x7F800000#32) hr hu) (ix2 i 0)
      = low (fun d => v (ix2 i d)) := by
  unfold low
  pointwise
  rw [bits_top]

/-- The greatest entry of every row. -/
theorem high_apply (v : FVec Ideal (Rows D) .f32) (hb : Each.BroadcastsInDim Col ![0]) (hr : (Rows D).ReducesTo [1] Each)
    (hu : 0 < S0.numel) (i : Fin 65536) :
    broadcastInDim Col ![0] hb (Host.reduce FloatOps.maximumf v (constant S0 .f32 0xFF800000#32) hr hu) (ix2 i 0)
      = high (fun d => v (ix2 i d)) := by
  unfold high
  pointwise
  rw [bits_bot]

/-- A column laid over every row. -/
theorem over_apply {α : Type} (hc : Col.BroadcastsInDim (Rows D) ![0, 1]) (v : Col.Idx → α) (i : Fin 65536) (d : Fin D) :
    broadcastInDim (Rows D) ![0, 1] hc v (ix2 i d) = v (ix2 i 0) := by
  unfold broadcastInDim
  refine congrArg v (funext fun a => ?_)
  fin_cases a
  · rfl
  · rfl

/-- A word clipped between two others is the clip of their numbers. -/
theorem clip_word (n : ℕ) (hn : n < 2 ^ 31) (z : BitVec 32) :
    (IntOp.minsi (BitVec.ofNat 32 n) (IntOp.maxsi 0#32 z)).toInt = min (n : ℤ) (max 0 z.toInt) := by
  have h := WordArith.toInt_ofNat_small n hn
  have h0 : (0#32 : BitVec 32).toInt = 0 := by decide
  unfold IntOp.minsi IntOp.maxsi
  simp only [BitVec.slt, decide_eq_true_eq]
  split_ifs <;> omega

/-- A conversion held between two bounds lies between them. -/
theorem clamped_mem (lo hi : ℤ) (h : lo ≤ hi) (y : EReal) : lo ≤ Ideal.toIntClamped lo hi y ∧ Ideal.toIntClamped lo hi y ≤ hi := by
  induction y with
  | bot => exact ⟨le_rfl, h⟩
  | top => exact ⟨h, le_rfl⟩
  | coe r => rw [Ideal.toIntClamped_coe]; omega

/-- A conversion's word is the number converted to. -/
theorem word_clamped (y : EReal) :
    (Ideal.fptosi 32 y).toInt = Ideal.toIntClamped (-(2 ^ 31 : ℕ)) ((2 ^ 31 : ℕ) - 1) y := by
  have hm := clamped_mem (-(2147483648 : ℤ)) 2147483647 (by norm_num) y
  have h1 : (-((2 ^ 31 : ℕ) : ℤ)) = -2147483648 := by norm_num
  have h2 : (((2 ^ 31 : ℕ) : ℤ) - 1) = 2147483647 := by norm_num
  rw [Ideal.fptosi, show 32 - 1 = 31 from rfl, h1, h2]
  exact BitVec.toInt_ofInt_eq_self (by norm_num) (by norm_num; exact hm.1) (by norm_num; omega)

/-- The place of every entry between its row's least and greatest, times `D`. -/
def places (size : BitVec 32) (h0 : S0.BroadcastsInDim (Rows D) ![]) (hc : Col.BroadcastsInDim (Rows D) ![0, 1])
    (h1 : S0.BroadcastsInDim Col ![]) (v : FVec Ideal (Rows D) .f32) (lo w : FVec Ideal Col .f32) : FVec Ideal (Rows D) .f32 :=
  mulf (Host.divf (subf v (broadcastInDim (Rows D) ![0, 1] hc lo))
      (broadcastInDim (Rows D) ![0, 1] hc (select (cmpf .ogt w (broadcastInDim Col ![] h1 (constant S0 .f32 0x00000000#32))) w
        (broadcastInDim Col ![] h1 (id (constant S0 .f32 0x3F800000#32))))))
    (broadcastInDim (Rows D) ![] h0 (constant S0 .f32 size))

/-- A place at an entry. -/
theorem places_apply {size : BitVec 32} (hsize : Ideal.ofBits .f32 size = ((D : ℝ) : EReal))
    (h0 : S0.BroadcastsInDim (Rows D) ![]) (hc : Col.BroadcastsInDim (Rows D) ![0, 1])
    (h1 : S0.BroadcastsInDim Col ![]) (v : FVec Ideal (Rows D) .f32) (lo w : FVec Ideal Col .f32) (i : Fin 65536)
    (hlo : lo (ix2 i 0) = low fun d => v (ix2 i d))
    (hw : w (ix2 i 0) = high (fun d => v (ix2 i d)) - low fun d => v (ix2 i d)) (d : Fin D) :
    places size h0 hc h1 v lo w (ix2 i d) = place (fun d => v (ix2 i d)) d := by
  show Ideal.div (v (ix2 i d) - broadcastInDim _ _ hc lo (ix2 i d))
    (broadcastInDim _ _ hc (select _ w _) (ix2 i d)) * Ideal.ofBits .f32 size = _
  rw [over_apply, over_apply, hsize, hlo]
  unfold place span
  rw [← span_select, ← hw]
  show Ideal.div _ (Scalar.select (Ideal.cmp .ogt _ (Ideal.ofBits .f32 0x00000000#32)) _ (Ideal.ofBits .f32 0x3F800000#32)) * _ = _
  rw [Ideal.ofBits_zero_f32, Ideal.ofBits_one_f32]

/-- The bin's number as a word: the floor of an entry's place, clipped as an integer. -/
def bins (last : BitVec 32) (h0 : S0.BroadcastsInDim (Rows D) ![]) (p : FVec Ideal (Rows D) .f32) : IVec (Rows D) 32 :=
  minsi (broadcastInDim (Rows D) ![] h0 (id (constantI S0 32 last))) (maxsi (broadcastInDim (Rows D) ![] h0 (id (constantI S0 32 0#32)))
    (fptosi 32 (Host.floor p)))

/-- The bin's number is the entry's slot. -/
theorem bins_apply (hD : 0 < D) (hD' : D < 2 ^ 30) (h0 : S0.BroadcastsInDim (Rows D) ![]) (p : FVec Ideal (Rows D) .f32)
    (i : Fin 65536) (d : Fin D) :
    bins (BitVec.ofNat 32 (D - 1)) h0 p (ix2 i d) = BitVec.ofNat 32 (slotOf D (p (ix2 i d))) := by
  show IntOp.minsi (BitVec.ofNat 32 (D - 1)) (IntOp.maxsi 0#32 (Ideal.fptosi 32 (Ideal.liftRound Int.floor (p (ix2 i d))))) = _
  generalize p (ix2 i d) = y
  have hs : slotOf D y < D := slotOf_lt hD y
  apply BitVec.eq_of_toInt_eq
  rw [clip_word _ (by omega), WordArith.toInt_ofNat_small _ (by omega), word_clamped, Nat.cast_sub hD, Nat.cast_one]
  exact clip_int hD hD' y

/-! ## The counts -/

/-- The flat position of every entry's bin: its sample times `D`, plus the bin's number. -/
def words (size : BitVec 32) (hc : Col.BroadcastsInDim (Rows D) ![0, 1]) (hb : Each.BroadcastsInDim Col ![0])
    (h1 : S0.BroadcastsInDim Col ![]) (hs : (Rows D).ShapeCasts (Flat N)) (B : IVec (Rows D) 32) : IVec (Flat N) 32 :=
  shapeCast (Flat N) (addi (broadcastInDim (Rows D) ![0, 1] hc (muli (broadcastInDim Col ![0] hb (iotaInDim Each 32 0))
    (broadcastInDim Col ![] h1 (constantI S0 32 size)))) B) hs

/-- A flat position at an entry. -/
theorem words_apply (hc : Col.BroadcastsInDim (Rows D) ![0, 1]) (hb : Each.BroadcastsInDim Col ![0])
    (h1 : S0.BroadcastsInDim Col ![]) (hs : (Rows D).ShapeCasts (Flat N)) (B : IVec (Rows D) 32) (j : (Flat N).Idx)
    (i : Fin 65536) (d : Fin D) (hj : Shape.reshapeEquiv hs j = ix2 i d) (n : ℕ) (hB : B (ix2 i d) = BitVec.ofNat 32 n) :
    words (BitVec.ofNat 32 D) hc hb h1 hs B j = BitVec.ofNat 32 (i.val * D + n) := by
  unfold words shapeCast
  rw [hj]
  show broadcastInDim (Rows D) ![0, 1] hc (muli (broadcastInDim Col ![0] hb (iotaInDim Each 32 0))
    (broadcastInDim Col ![] h1 (constantI S0 32 (BitVec.ofNat 32 D)))) (ix2 i d) + B (ix2 i d) = _
  rw [over_apply, hB, BitVec.ofNat_add, BitVec.ofNat_mul]
  rfl

/-- The dimensions of a scatter of single values along one axis. -/
abbrev hist (wf : ScatterDims.WF (Flat N) ⟨2, ![N, 1]⟩ (Flat N) [] [0] [0] 1) : ScatterDims (Flat N) ⟨2, ![N, 1]⟩ (Flat N) where
  updateWindowDims := []
  insertedWindowDims := [0]
  scatterDimsToOperandDims := [0]
  indexVectorDim := 1
  wf := wf

/-- Where an update lands. -/
theorem hist_lands (wf : ScatterDims.WF (Flat N) ⟨2, ![N, 1]⟩ (Flat N) [] [0] [0] 1) (idx : IVec ⟨2, ![N, 1]⟩ 32)
    (j k : (Flat N).Idx) (n : ℕ) (hn : (idx (ix2 (j 0) 0)).toInt = n) (hN : n < N) :
    (hist wf).resultIdx? j idx = some k ↔ n = (k 0).val := by
  have hi : ∀ c, (hist wf).siIdx j c = ix2 (j 0) 0 := fun c => by
    funext b
    fin_cases b
    · rfl
    · exact Subsingleton.elim (α := Fin 1) _ _
  have hst : ∀ a, (hist wf).start j idx a + (hist wf).window j a = n := fun a => by
    obtain rfl : a = 0 := Subsingleton.elim _ _
    have h1 : (hist wf).start j idx 0 = n := by
      exact (congrArg (fun t => (idx t).toInt) (hi ⟨0, Nat.one_pos⟩)).trans hn
    have h2 : (hist wf).window j 0 = 0 := rfl
    rw [h1, h2]; simp
  unfold ScatterDims.resultIdx?
  rw [dif_pos fun a => by rw [hst]; obtain rfl : a = 0 := Subsingleton.elim _ _; exact ⟨by omega, by exact_mod_cast hN⟩]
  simp only [Option.some.injEq]
  constructor
  · intro h
    have := congrArg Fin.val (congrFun h 0)
    simpa [hst] using this
  · intro h
    funext a
    obtain rfl : a = 0 := Subsingleton.elim _ _
    apply Fin.ext
    simpa [hst] using h

/-- The counts: one added at every flat position. -/
def counts (size : BitVec 32) (wf : ScatterDims.WF (Flat N) ⟨2, ![N, 1]⟩ (Flat N) [] [0] [0] 1)
    (hf : S0.BroadcastsInDim (Flat N) ![]) (hn : (Flat N).BroadcastsInDim ⟨2, ![N, 1]⟩ ![0]) (hs : (Flat N).ShapeCasts (Rows D))
    (q : IVec (Flat N) 32) : FVec Ideal (Rows D) .f32 :=
  shapeCast (Rows D) (Host.scatterAdd (hist wf) (broadcastInDim (Flat N) ![] hf (constant S0 .f32 0x00000000#32))
    (broadcastInDim ⟨2, ![N, 1]⟩ ![0] hn (select (cmpi .slt q (broadcastInDim (Flat N) ![] hf (constantI S0 32 0#32)))
      (addi q (broadcastInDim (Flat N) ![] hf (constantI S0 32 size))) q))
    (broadcastInDim (Flat N) ![] hf (constant S0 .f32 0x3F800000#32))) hs

/-- A position that is not negative is taken as it is. -/
theorem wrapped_apply (size : BitVec 32) (hf : S0.BroadcastsInDim (Flat N) ![])
    (hn : (Flat N).BroadcastsInDim ⟨2, ![N, 1]⟩ ![0]) (q : IVec (Flat N) 32) (j : (Flat N).Idx) (n : ℕ)
    (hq : q j = BitVec.ofNat 32 n) (h31 : n < 2 ^ 31) :
    (broadcastInDim ⟨2, ![N, 1]⟩ ![0] hn (select (cmpi .slt q (broadcastInDim (Flat N) ![] hf (constantI S0 32 0#32)))
      (addi q (broadcastInDim (Flat N) ![] hf (constantI S0 32 size))) q) (ix2 (j 0) 0)).toInt = n := by
  have hb : ∀ v : IVec (Flat N) 32, broadcastInDim ⟨2, ![N, 1]⟩ ![0] hn v (ix2 (j 0) 0) = v j := fun v => by
    unfold broadcastInDim
    refine congrArg v (funext fun a => ?_)
    obtain rfl : a = 0 := Subsingleton.elim _ _
    apply Fin.ext
    by_cases h : N = 1
    · subst h
      exact (Nat.lt_one_iff.mp (Fin.isLt _)).trans (Nat.lt_one_iff.mp (j 0).isLt).symm
    · simp [h]
  have ht := WordArith.toInt_ofNat_small n h31
  rw [hb]
  show (Scalar.select (IntOp.cmpi .slt (q j) 0#32) (q j + size) (q j)).toInt = n
  have hc : IntOp.cmpi .slt (q j) 0#32 = BitVec.ofBool false := by
    rw [hq]
    refine congrArg BitVec.ofBool ?_
    simp only [BitVec.slt, ht]
    exact decide_eq_false (by rw [show (0#32 : BitVec 32).toInt = 0 from by decide]; omega)
  rw [hc]
  show (q j).toInt = n
  rw [hq, ht]

/-- The counts of every sample's bins. -/
theorem counts_apply (hN : N = 65536 * D) (h31 : N < 2 ^ 31) (size : BitVec 32)
    (wf : ScatterDims.WF (Flat N) ⟨2, ![N, 1]⟩ (Flat N) [] [0] [0] 1)
    (hf : S0.BroadcastsInDim (Flat N) ![]) (hn : (Flat N).BroadcastsInDim ⟨2, ![N, 1]⟩ ![0])
    (hs : (Flat N).ShapeCasts (Rows D)) (hr : (Rows D).ShapeCasts (Flat N))
    (q : IVec (Flat N) 32) (n : Fin 65536 → Fin D → ℕ) (hlt : ∀ i d, n i d < D)
    (hq : ∀ i d, q (Shape.reshapeEquiv hs (ix2 i d)) = BitVec.ofNat 32 (i.val * D + n i d)) (i : Fin 65536) (c : Fin D) :
    counts size wf hf hn hs q (ix2 i c) = (((Finset.univ.filter fun d => n i d = c).card : ℝ) : EReal) := by
  have hpos : ∀ b d, ((Shape.reshapeEquiv hs (ix2 b d) : (Flat N).Idx) 0).val = b.val * D + d.val := fun b d => by
    have h := Shape.rowMajor_reshapeEquiv hs (ix2 b d)
    rw [rowMajor_val1, rowMajor_val2 _ D rfl] at h
    exact h
  have hbound : ∀ b : Fin 65536, ∀ m, m < D → b.val * D + m < N := fun b m hm => by
    have : b.val * D + D ≤ 65536 * D := by
      have := Nat.mul_le_mul_right D (Nat.succ_le_of_lt b.isLt)
      rwa [Nat.succ_mul] at this
    omega
  have hland : ∀ b d, (hist wf).resultIdx? (Shape.reshapeEquiv hs (ix2 b d))
      (broadcastInDim ⟨2, ![N, 1]⟩ ![0] hn (select (cmpi .slt q (broadcastInDim (Flat N) ![] hf (constantI S0 32 0#32)))
        (addi q (broadcastInDim (Flat N) ![] hf (constantI S0 32 size))) q)) = some (Shape.reshapeEquiv hs (ix2 i c))
      ↔ b = i ∧ n b d = c.val := fun b d => by
    have hb := hbound b _ (hlt b d)
    rw [hist_lands wf _ _ _ _ (wrapped_apply size hf hn q _ _ (hq b d) (by omega)) hb, hpos]
    constructor
    · intro h
      have h1 := congrArg (· / D) h
      have h2 := congrArg (· % D) h
      have hD := c.pos
      simp only [Nat.mul_comm _ D, Nat.mul_add_div hD, Nat.div_eq_of_lt (hlt b d), Nat.div_eq_of_lt c.isLt, Nat.mul_add_mod,
        Nat.mod_eq_of_lt (hlt b d), Nat.mod_eq_of_lt c.isLt] at h1 h2
      exact ⟨Fin.ext (by omega), h2⟩
    · rintro ⟨rfl, h⟩
      rw [h]
  show Ideal.hostScatterAdd (hist wf) _ _ _ (Shape.reshapeEquiv hs (ix2 i c)) = _
  unfold Ideal.hostScatterAdd
  show Ideal.ofBits .f32 0x00000000#32 + ∑ j ∈ _, Ideal.ofBits .f32 0x3F800000#32 = _
  rw [Ideal.ofBits_zero_f32, Ideal.ofBits_one_f32, zero_add, Finset.sum_const, nsmul_one, EReal.coe_natCast]
  refine congrArg Nat.cast (Finset.card_bij (fun d _ => (Shape.reshapeEquiv hs (ix2 i d) : (Flat N).Idx)) ?_ ?_ ?_).symm
  · intro d hd
    exact Finset.mem_filter.2 ⟨Finset.mem_univ _, (hland i d).2 ⟨rfl, (Finset.mem_filter.1 hd).2⟩⟩
  · intro d _ e _ h
    have := congrFun ((Shape.reshapeEquiv hs).injective h) 1
    exact this
  · intro j hj
    obtain ⟨x, rfl⟩ := (Shape.reshapeEquiv hs).surjective j
    obtain ⟨b, d, rfl⟩ : ∃ (b : Fin 65536) (d : Fin D), x = ix2 b d := ⟨x 0, x 1, eq_ix2 x⟩
    obtain ⟨rfl, h⟩ := (hland b d).1 (Finset.mem_filter.1 hj).2
    exact ⟨d, Finset.mem_filter.2 ⟨Finset.mem_univ _, h⟩, rfl⟩

/-! ## The entropy -/

/-- The mean over the samples of the entropy of the shares of their bins plus the logarithm of the bins' number. -/
def meanEntropy (size : BitVec 32) (h0 : S0.BroadcastsInDim (Rows D) ![]) (he : S0.BroadcastsInDim Each ![])
    (hr : (Rows D).ReducesTo [1] Each) (hr0 : Each.ReducesTo [0] S0) (hu : 0 < S0.numel) (p : FVec Ideal (Rows D) .f32) :
    FVec Ideal S0 .f32 :=
  Host.divf (Host.reduceAdd (addf (Host.negf (Host.reduceAdd
      (select (cmpf .ogt p (broadcastInDim (Rows D) ![] h0 (constant S0 .f32 0x00000000#32)))
        (mulf p (Host.log (select (cmpf .ogt p (broadcastInDim (Rows D) ![] h0 (constant S0 .f32 0x00000000#32))) p
          (broadcastInDim (Rows D) ![] h0 (id (constant S0 .f32 0x3F800000#32))))))
        (broadcastInDim (Rows D) ![] h0 (id (constant S0 .f32 0x00000000#32)))) (constant S0 .f32 0x00000000#32) hr hu))
      (broadcastInDim Each ![] he (Host.log (constant S0 .f32 size)))) (constant S0 .f32 0x00000000#32) hr0 hu)
    (constant S0 .f32 0x47800000#32)

/-- A share times its logarithm, zero where the share is. -/
theorem share_log {r : ℝ} (h : 0 ≤ r) :
    (if 0 < (r : EReal) then (r : EReal) * Ideal.log (if 0 < (r : EReal) then (r : EReal)
        else id (constant S0 .f32 0x3F800000#32 : FVec Ideal S0 .f32) ix0)
      else id (constant S0 .f32 0x00000000#32 : FVec Ideal S0 .f32) ix0) = ((r * Real.log r : ℝ) : EReal) := by
  rcases h.lt_or_eq with h | rfl
  · rw [if_pos (EReal.coe_pos.2 h), if_pos (EReal.coe_pos.2 h),
      show Ideal.log (r : EReal) = (Real.log r : EReal) from if_neg (not_le.mpr h), ← EReal.coe_mul]
  · rw [if_neg (by simp)]
    show Ideal.ofBits .f32 0x00000000#32 = _
    rw [Ideal.ofBits_zero_f32]
    simp

/-- The mean entropy of shares that are real numbers. -/
theorem meanEntropy_apply (hD : 0 < D) {size : BitVec 32} (hsize : Ideal.ofBits .f32 size = ((D : ℝ) : EReal))
    (h0 : S0.BroadcastsInDim (Rows D) ![]) (he : S0.BroadcastsInDim Each ![])
    (hr : (Rows D).ReducesTo [1] Each) (hr0 : Each.ReducesTo [0] S0) (hu : 0 < S0.numel) (p : FVec Ideal (Rows D) .f32)
    (a : Fin 65536 → Fin D → EReal) (hp : ∀ i c, p (ix2 i c) = ((tally (a i) c / D : ℝ) : EReal)) :
    meanEntropy size h0 he hr hr0 hu p = fun _ => entropy D fun b => weight (a b) := by
  funext j
  obtain rfl : j = ix0 := Subsingleton.elim _ _
  have hD' : (0 : ℝ) < D := by exact_mod_cast hD
  unfold entropy
  pointwise [meanEntropy]
  have hl : Ideal.log ((D : ℝ) : EReal) = (Real.log D : EReal) := if_neg (not_le.mpr hD')
  have hrow : ∀ b, (∑ c, if 0 < p (ix2 b c) then p (ix2 b c) * Ideal.log (if 0 < p (ix2 b c) then p (ix2 b c)
        else id (constant S0 .f32 0x3F800000#32 : FVec Ideal S0 .f32) ix0)
      else id (constant S0 .f32 0x00000000#32 : FVec Ideal S0 .f32) ix0)
      = ((∑ c : Fin D, (tally (a b) c / D : ℝ) * Real.log (tally (a b) c / D) : ℝ) : EReal) := fun b => by
    rw [← coe_sum]
    refine Finset.sum_congr rfl fun c _ => ?_
    rw [hp]
    exact share_log (by positivity)
  have hsum : ∀ b, -((∑ c : Fin D, (tally (a b) c / D : ℝ) * Real.log (tally (a b) c / D) : ℝ) : EReal) + (Real.log D : EReal)
      = ((2 * Real.log D - weight (a b) / D : ℝ) : EReal) := fun b => by
    rw [← EReal.coe_neg, ← EReal.coe_add, entropy_shares hD]
  rw [hsize, hl, bits_65536, Finset.sum_congr rfl fun b _ => (congrArg (fun t => -t + (Real.log D : EReal)) (hrow b)).trans (hsum b),
    coe_sum, Ideal.div_coe (by norm_num), ← EReal.coe_mul, mul_one_div, entropy_mean hD]

/-! ## A layer's result -/

/-- The shape facts of a layer of `D` activations, `N` in all samples. -/
structure Facts (D N : ℕ) : Prop where
  pos : 0 < D
  total : N = 65536 * D
  small : N < 2 ^ 31
  rows : S0.BroadcastsInDim (Rows D) ![]
  over : Col.BroadcastsInDim (Rows D) ![0, 1]
  one : S0.BroadcastsInDim Col ![]
  col : Each.BroadcastsInDim Col ![0]
  each : S0.BroadcastsInDim Each ![]
  red : (Rows D).ReducesTo [1] Each
  red0 : Each.ReducesTo [0] S0
  unit : 0 < S0.numel
  flat : (Rows D).ShapeCasts (Flat N)
  unflat : (Flat N).ShapeCasts (Rows D)
  zero : S0.BroadcastsInDim (Flat N) ![]
  index : (Flat N).BroadcastsInDim ⟨2, ![N, 1]⟩ ![0]
  wf : ScatterDims.WF (Flat N) ⟨2, ![N, 1]⟩ (Flat N) [] [0] [0] 1

/-- The least entries of the activations, -/
def lows (f : Facts D N) (v : FVec Ideal (Rows D) .f32) : FVec Ideal Col .f32 :=
  broadcastInDim Col ![0] f.col (Host.reduce FloatOps.minimumf v (constant S0 .f32 0x7F800000#32) f.red f.unit)

/-- their ranges, -/
def ranges (f : Facts D N) (v : FVec Ideal (Rows D) .f32) (lo : FVec Ideal Col .f32) : FVec Ideal Col .f32 :=
  subf (broadcastInDim Col ![0] f.col (Host.reduce FloatOps.maximumf v (constant S0 .f32 0xFF800000#32) f.red f.unit)) lo

/-- the flat positions of their bins, -/
def flats (f : Facts D N) (size : BitVec 32) (v : FVec Ideal (Rows D) .f32) (lo w : FVec Ideal Col .f32) : IVec (Flat N) 32 :=
  words (BitVec.ofNat 32 D) f.over f.col f.one f.flat
    (bins (BitVec.ofNat 32 (D - 1)) f.rows (places size f.rows f.over f.one v lo w))

/-- and the shares of the bins. -/
def shares (f : Facts D N) (size : BitVec 32) (q : IVec (Flat N) 32) : FVec Ideal (Rows D) .f32 :=
  Host.divf (counts (BitVec.ofNat 32 N) f.wf f.zero f.index f.unflat q) (broadcastInDim (Rows D) ![] f.rows (constant S0 .f32 size))

/-- A layer's result off its activations. -/
theorem layer_result (f : Facts D N) {size : BitVec 32} (hsize : Ideal.ofBits .f32 size = ((D : ℝ) : EReal))
    (v : FVec Ideal (Rows D) .f32) (a : Fin 65536 → Fin D → EReal) (ha : ∀ i d, v (ix2 i d) = a i d) :
    meanEntropy size f.rows f.each f.red f.red0 f.unit
        (shares f size (flats f size v (lows f v) (ranges f v (lows f v))))
      = fun _ => entropy D fun b => weight (a b) := by
  have hv : ∀ i, (fun d => v (ix2 i d)) = a i := fun i => funext (ha i)
  have hlo : ∀ i, lows f v (ix2 i 0) = low fun d => v (ix2 i d) := fun i => low_apply v f.col f.red f.unit i
  have hw : ∀ i, ranges f v (lows f v) (ix2 i 0) = high (fun d => v (ix2 i d)) - low fun d => v (ix2 i d) := fun i => by
    rw [← hlo i, ← high_apply v f.col f.red f.unit i]; rfl
  have hq : ∀ i d, flats f size v (lows f v) (ranges f v (lows f v)) (Shape.reshapeEquiv f.unflat (ix2 i d))
      = BitVec.ofNat 32 (i.val * D + slot (a i) d) := fun i d =>
    words_apply f.over f.col f.one f.flat _ _ i d
      ((Shape.reshapeEquiv_reshapeEquiv _ _ _).trans (Shape.reshapeEquiv_self _ _)) _
      ((bins_apply f.pos (by have := f.total; have := f.small; omega) f.rows _ i d).trans
        (congrArg (fun y => BitVec.ofNat 32 (slotOf D y))
          ((places_apply hsize f.rows f.over f.one v _ _ i (hlo i) (hw i) d).trans (congrArg (fun r => place r d) (hv i)))))
  refine meanEntropy_apply f.pos hsize _ _ _ _ _ _ a fun i c => ?_
  have hD' : (0 : ℝ) < D := by exact_mod_cast f.pos
  show Ideal.div (counts _ f.wf f.zero f.index f.unflat _ (ix2 i c)) (Ideal.ofBits .f32 size) = _
  rw [counts_apply f.total f.small _ f.wf f.zero f.index f.unflat f.flat _ (fun i d => slot (a i) d) (fun i d => slot_lt _ d) hq,
    hsize, Ideal.div_coe hD'.ne', ← EReal.coe_mul, mul_one_div]
  rfl

/-! ## The log-probabilities -/

/-- A row of ten values less its greatest. -/
def centered (h1 : Each.BroadcastsInDim Col ![0]) (h2 : Col.BroadcastsInDim (Rows D) ![0, 1]) (he : S0.BroadcastsInDim Each ![])
    (hr : (Rows D).ReducesTo [1] Each) (hu : 0 < S0.numel) (v : FVec Ideal (Rows D) .f32) : FVec Ideal (Rows D) .f32 :=
  subf v (broadcastInDim (Rows D) ![0, 1] h2 (broadcastInDim Col ![0] h1 (maximumf (broadcastInDim Each ![] he (constant S0 .f32 0xFF800000#32))
    (Host.reduce FloatOps.maximumf v (constant S0 .f32 0xFF800000#32) hr hu))))

/-- The logarithm of the softmax off the centered values. -/
def logShares (h1 : Each.BroadcastsInDim Col ![0]) (h2 : Col.BroadcastsInDim (Rows D) ![0, 1])
    (hr : (Rows D).ReducesTo [1] Each) (hu : 0 < S0.numel) (s : FVec Ideal (Rows D) .f32) : FVec Ideal (Rows D) .f32 :=
  subf s (broadcastInDim (Rows D) ![0, 1] h2 (Host.log (broadcastInDim Col ![0] h1
    (Host.reduceAdd (Host.exp s) (constant S0 .f32 0x00000000#32) hr hu))))

/-- A centered value. -/
theorem centered_apply (h1 : Each.BroadcastsInDim Col ![0]) (h2 : Col.BroadcastsInDim (Rows D) ![0, 1]) (he : S0.BroadcastsInDim Each ![])
    (hr : (Rows D).ReducesTo [1] Each) (hu : 0 < S0.numel) (v : FVec Ideal (Rows D) .f32) (i : Fin 65536) (d : Fin D) :
    centered h1 h2 he hr hu v (ix2 i d) = v (ix2 i d) - high fun d => v (ix2 i d) := by
  refine (congrArg (fun t => v (ix2 i d) - t) (over_apply h2 _ i d)).trans (congrArg (fun t => v (ix2 i d) - t) ?_)
  unfold high
  pointwise
  rw [bits_bot, max_eq_right bot_le]

/-- A log-probability. -/
theorem logShares_apply (h1 : Each.BroadcastsInDim Col ![0]) (h2 : Col.BroadcastsInDim (Rows D) ![0, 1]) (he : S0.BroadcastsInDim Each ![])
    (hr : (Rows D).ReducesTo [1] Each) (hu : 0 < S0.numel) (v : FVec Ideal (Rows D) .f32) (i : Fin 65536) (d : Fin D) :
    logShares h1 h2 hr hu (centered h1 h2 he hr hu v) (ix2 i d) = logSoft (fun d => v (ix2 i d)) d := by
  have hc := centered_apply h1 h2 he hr hu v i d
  unfold logShares
  generalize hg : centered h1 h2 he hr hu v = s at hc
  refine (congrArg (fun t => s (ix2 i d) - t) (over_apply h2 _ i d)).trans ?_
  rw [hc]
  unfold logSoft
  refine congrArg (fun t => v (ix2 i d) - high (fun d => v (ix2 i d)) - t) ?_
  subst hg
  rw [Finset.sum_congr rfl fun e _ => congrArg Ideal.exp (centered_apply h1 h2 he hr hu v i e).symm]
  pointwise

end Cert.Proof.RefLayer
-- ==== Proof.RefNet.lean ====
/-
  The reference's six results, off its arguments: the log-probabilities and the five layers' entropies.
-/
module

public import proofs.«01_k».proof.Proof.RefLayer
public import proofs.«01_k».proof.Proof.Gen.ReferenceIdeal.Run

@[expose] public section

set_option maxRecDepth 16384

noncomputable section

namespace Cert.Proof.RefNet

open Idealize.ShloMosaic Idealize.ShloMosaic.TcCoe Idealize.SL.Sem
open Cert.Proof.Spec Cert.Proof.Block Cert.Proof.RefLayer
open Cert.ReferenceIdeal Cert.ReferenceIdeal.Gen Cert.ReferenceIdeal.Value

variable (V : Valuation τ sig (Elt Ideal))

/-- The network of the reference's arguments. -/
def net : Params :=
  Params.of (V (Proc.devRef .tc main_arg1)) (V (Proc.devRef .tc main_arg2)) (V (Proc.devRef .tc main_arg3))
    (V (Proc.devRef .tc main_arg4)) (V (Proc.devRef .tc main_arg5)) (V (Proc.devRef .tc main_arg6))
    (V (Proc.devRef .tc main_arg7)) (V (Proc.devRef .tc main_arg8)) (V (Proc.devRef .tc main_arg9))
    (V (Proc.devRef .tc main_arg10)) (V (Proc.devRef .tc main_arg11)) (V (Proc.devRef .tc main_arg12))

/-- The samples of the reference's arguments. -/
def batch : Fin 65536 → Fin 784 → EReal := samples (V (Proc.devRef .tc main_arg0))

/-- The activations of the first layer, -/
theorem act1 (i : Fin 65536) (d : Fin 256) : res_main_v5 V (ix2 i d) = a1 (net V) (batch V i) d :=
  layer_apply (a := batch V) (fun _ _ => rfl) _ _ _ _ _ _ (z := res_main_v4 V) rfl rfl i d
/-- of the second, -/
theorem act2 (i : Fin 65536) (d : Fin 128) : res_main_v62 V (ix2 i d) = a2 (net V) (batch V i) d :=
  layer_apply (act1 V) _ _ _ _ _ _ (z := res_main_v61 V) rfl rfl i d
/-- of the third, -/
theorem act3 (i : Fin 65536) (d : Fin 128) : res_main_v119 V (ix2 i d) = a3 (net V) (batch V i) d :=
  layer_apply (act2 V) _ _ _ _ _ _ (z := res_main_v118 V) rfl rfl i d
/-- of the fourth, -/
theorem act4 (i : Fin 65536) (d : Fin 128) : res_main_v176 V (ix2 i d) = a4 (net V) (batch V i) d :=
  layer_apply (act3 V) _ _ _ _ _ _ (z := res_main_v175 V) rfl rfl i d
/-- and of the fifth. -/
theorem act5 (i : Fin 65536) (d : Fin 32) : res_main_v233 V (ix2 i d) = a5 (net V) (batch V i) d :=
  layer_apply (act4 V) _ _ _ _ _ _ (z := res_main_v232 V) rfl rfl i d

/-- The shape facts of the layers of 256, -/
theorem facts256 : RefLayer.Facts 256 16777216 := by constructor <;> decide
/-- of 128, -/
theorem facts128 : RefLayer.Facts 128 8388608 := by constructor <;> decide
/-- and of 32 activations. -/
theorem facts32 : RefLayer.Facts 32 2097152 := by constructor <;> decide

set_option maxHeartbeats 1000000 in
/-- The entropy of the first layer, -/
theorem entropy1 : meanEntropy 0x43800000#32 facts256.rows facts256.each facts256.red facts256.red0 facts256.unit (res_main_v41 V)
    = layerEntropy (net V) (batch V) 256 0 := layer_result facts256 bits_256 (res_main_v5 V) _ (act1 V)
set_option maxHeartbeats 1000000 in
/-- of the second, -/
theorem entropy2 : meanEntropy 0x43000000#32 facts128.rows facts128.each facts128.red facts128.red0 facts128.unit (res_main_v98 V)
    = layerEntropy (net V) (batch V) 128 1 := layer_result facts128 bits_128 (res_main_v62 V) _ (act2 V)
set_option maxHeartbeats 1000000 in
/-- of the third, -/
theorem entropy3 : meanEntropy 0x43000000#32 facts128.rows facts128.each facts128.red facts128.red0 facts128.unit (res_main_v155 V)
    = layerEntropy (net V) (batch V) 128 2 := layer_result facts128 bits_128 (res_main_v119 V) _ (act3 V)
set_option maxHeartbeats 1000000 in
/-- of the fourth, -/
theorem entropy4 : meanEntropy 0x43000000#32 facts128.rows facts128.each facts128.red facts128.red0 facts128.unit (res_main_v212 V)
    = layerEntropy (net V) (batch V) 128 3 := layer_result facts128 bits_128 (res_main_v176 V) _ (act4 V)
set_option maxHeartbeats 1000000 in
/-- and of the fifth. -/
theorem entropy5 : meanEntropy 0x42000000#32 facts32.rows facts32.each facts32.red facts32.red0 facts32.unit (res_main_v269 V)
    = layerEntropy (net V) (batch V) 32 4 := layer_result facts32 bits_32 (res_main_v233 V) _ (act5 V)

/-- The last layer's outputs. -/
theorem act6 (i : Fin 65536) (d : Fin 10) :
    res_main_v290 V (ix2 i d) = max (dense (net V).W6 (net V).b6 (a5 (net V) (batch V i)) d) 0 := by
  rw [← funext (act5 V i), ← Ideal.ofBits_zero_f32]
  exact congrArg (max · (Ideal.ofBits .f32 0x00000000#32)) (affine_apply (res_main_v233 V) (V (Proc.devRef .tc main_arg11))
    (V (Proc.devRef .tc main_arg12)) transposes_S10x32_S32x10_1_0 bcast_S10_S1x10_1 bcast_S1x10_S65536x10_0_1 i d)

/-- The log-probabilities. -/
theorem probs : logShares bcast_S65536_S65536x1_0 bcast_S65536x1_S65536x10_0_1 reducesTo_S65536x10_S65536_d1 h_S_ (res_main_call26_v5 V)
    = logProbs (net V) (batch V) := by
  funext j
  obtain ⟨i, d, rfl⟩ : ∃ (i : Fin 65536) (d : Fin 10), j = ix2 i d := ⟨j 0, j 1, eq_ix2 j⟩
  refine (logShares_apply bcast_S65536_S65536x1_0 bcast_S65536x1_S65536x10_0_1 bcast_S_S65536 reducesTo_S65536x10_S65536_d1 h_S_
    (res_main_v290 V) i d).trans ?_
  rw [funext (act6 V i)]
  rfl

/-- The run of the reference: its results, and its arguments as launched. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v291) = logProbs (net (StableHlo.launchContents m c)) (batch (StableHlo.launchContents m c))
      ∧ r.2.mem ((c.tc : Thread nD τ).loc main_v56) = layerEntropy (net (StableHlo.launchContents m c)) (batch (StableHlo.launchContents m c)) 256 0
      ∧ r.2.mem ((c.tc : Thread nD τ).loc main_v113) = layerEntropy (net (StableHlo.launchContents m c)) (batch (StableHlo.launchContents m c)) 128 1
      ∧ r.2.mem ((c.tc : Thread nD τ).loc main_v170) = layerEntropy (net (StableHlo.launchContents m c)) (batch (StableHlo.launchContents m c)) 128 2
      ∧ r.2.mem ((c.tc : Thread nD τ).loc main_v227) = layerEntropy (net (StableHlo.launchContents m c)) (batch (StableHlo.launchContents m c)) 128 3
      ∧ r.2.mem ((c.tc : Thread nD τ).loc main_v284) = layerEntropy (net (StableHlo.launchContents m c)) (batch (StableHlo.launchContents m c)) 32 4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => by
    obtain ⟨h0, h1, h2, h3, h4, h5, hk⟩ := h c
    exact ⟨h0.trans (probs _), h1.trans (entropy1 _), h2.trans (entropy2 _), h3.trans (entropy3 _), h4.trans (entropy4 _),
      h5.trans (entropy5 _), hk⟩) (run (F := Ideal) m ρ)

end Cert.Proof.RefNet
-- ==== Proof.lean ====
/-
  The certificate's claim, assembled from the modules under Proof/.
-/
module

public import proofs.«01_k».proof.Defs
public import proofs.«01_k».proof.Proof.Frames
public import proofs.«01_k».proof.Proof.Tail
public import proofs.«01_k».proof.Proof.RefNet
public import proofs.«01_k».proof.Proof.Gen.ReferenceIdeal.Run

@[expose] public section

noncomputable section

namespace Cert.Proof

open Idealize.ShloMosaic Idealize.ShloMosaic.TcCoe Idealize.SL.Sem

/-- The reference runs, leaves its arguments unchanged and ends with every counter at zero: its run's composed
    terms, less the results; it declares no semaphore. -/
theorem frame_reference : letI := Cert.ReferenceIdeal.Gen.facts; Cert.quiescent_ReferenceIdeal := by
  intro m ρ _
  exact (θ_run Cert.ReferenceIdeal.defs _ _).mono
    (fun r h => ⟨fun c => (h c).2.2.2.2.2.2, sem_eq_zero_of_no_sems (by decide) r.2⟩)
    (Cert.ReferenceIdeal.Value.run (F := Ideal) m ρ)

/-- On arguments that agree, the kernel and the reference compute the same six results over the extended reals. -/
theorem algebraic : letI := Cert.KernelIdeal.Gen.facts; letI := Cert.ReferenceIdeal.Gen.facts;
    Cert.algebraic_KernelIdeal_ReferenceIdeal := by
  intro m g m' g' _ hargs
  have hnet : ∀ c, RefNet.net (StableHlo.launchContents m' c) = Ideal.net m c := fun c => by
    obtain ⟨-, h1, h2, h3, h4, h5, h6, h7, h8, h9, h10, h11, h12⟩ := hargs c
    unfold Ideal.net
    rw [← h1, ← h2, ← h3, ← h4, ← h5, ← h6, ← h7, ← h8, ← h9, ← h10, ← h11, ← h12]
    rfl
  have hbatch : ∀ c, RefNet.batch (StableHlo.launchContents m' c) = Ideal.batch m c := fun c => by
    unfold Ideal.batch
    rw [← (hargs c).1]
    rfl
  refine ⟨fun c => Spec.logProbs (Ideal.net m c) (Ideal.batch m c), fun c => Spec.layerEntropy (Ideal.net m c) (Ideal.batch m c) 256 0,
    fun c => Spec.layerEntropy (Ideal.net m c) (Ideal.batch m c) 128 1, fun c => Spec.layerEntropy (Ideal.net m c) (Ideal.batch m c) 128 2,
    fun c => Spec.layerEntropy (Ideal.net m c) (Ideal.batch m c) 128 3, fun c => Spec.layerEntropy (Ideal.net m c) (Ideal.batch m c) 32 4,
    ?_, ?_⟩
  · exact (θ_run Cert.KernelIdeal.defs _ _).mono (fun r hr c => by
      obtain ⟨h0, h1, h2, h3, h4, h5⟩ := Ideal.results m r hr.1 c
      exact ⟨h0, h1, h2, h3, h4, h5, Ideal.args_kept m r hr.1 c⟩) (Ideal.run_main m g)
  · exact (θ_run Cert.ReferenceIdeal.defs _ _).mono (fun r hr c => by
      have h := hr c
      rw [hnet c, hbatch c] at h
      exact h) (RefNet.run_results m' g')

/-- Everything the certificate claims. -/
theorem claim : Cert.Claim :=
  ⟨Cert.Kernel.Gen.facts, Cert.KernelIdeal.Gen.facts, Cert.ReferenceIdeal.Gen.facts,
    fun m g _ => Printed.frame_main m g, fun m g _ => Ideal.frame_main m g, frame_reference, trivial, algebraic⟩

end Cert.Proof

end
